-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_path_graph [hPre_path_graph : Cert.Pre_path_graph.Facts] (m : (ℓ : Loc Cert.KernelIdeal.nD Cert.KernelIdeal.τ Cert.KernelIdeal.sig) → Buf (Elt Ideal) ℓ) : Prop :=
  ∀ c : Dev Cert.KernelIdeal.nD,
    (Cert.Pre_path_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_path_graph [hPre_path_graph : Cert.Pre_path_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_path_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_path_graph [hKernelIdeal : Cert.KernelIdeal.Facts] [hPre_path_graph : Cert.Pre_path_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_path_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_path_graph [hReferenceIdeal : Cert.ReferenceIdeal.Facts] [hPre_path_graph : Cert.Pre_path_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_path_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_path_graph [hKernelIdeal : Cert.KernelIdeal.Facts] [hReferenceIdeal : Cert.ReferenceIdeal.Facts] [hPre_path_graph : Cert.Pre_path_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_path_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_path_graph : Cert.Pre_path_graph.Facts),
    quiescent_Kernel (hKernel := hKernel)
    ∧ quiescent_KernelIdeal (hKernelIdeal := hKernelIdeal)
    ∧ quiescent_KernelIdeal_pre_path_graph (hKernelIdeal := hKernelIdeal) (hPre_path_graph := hPre_path_graph)
    ∧ quiescent_ReferenceIdeal (hReferenceIdeal := hReferenceIdeal)
    ∧ quiescent_ReferenceIdeal_pre_path_graph (hReferenceIdeal := hReferenceIdeal) (hPre_path_graph := hPre_path_graph)
    ∧ preserves_Kernel_KernelIdeal
    ∧ algebraic_KernelIdeal_ReferenceIdeal_pre_path_graph (hKernelIdeal := hKernelIdeal) (hReferenceIdeal := hReferenceIdeal) (hPre_path_graph := hPre_path_graph)
-- ==== Pre_path_graph.lean ====
abbrev S256x128 : Shape := ⟨2, ![256, 128]⟩
abbrev S20x16 : Shape := ⟨2, ![20, 16]⟩
abbrev S1 : Shape := ⟨1, ![1]⟩
abbrev S128x2 : Shape := ⟨2, ![128, 2]⟩
abbrev S_ : Shape := ⟨0, ![]⟩
abbrev S16x20 : Shape := ⟨2, ![16, 20]⟩
abbrev S20x20 : Shape := ⟨2, ![20, 20]⟩

class Facts : Prop where
  bcast_S_S128x2 : S_.BroadcastsInDim S128x2 (![] : Fin 0 → Fin S128x2.rank)
  natLt_1_32 : 1 < 32
  transposes_S20x16_S16x20_1_0 : S20x16.Transposes [1, 0] S16x20
  bcast_S_S256x128 : S_.BroadcastsInDim S256x128 (![] : Fin 0 → Fin S256x128.rank)
  reducesTo_S256x128_S_d0_1 : S256x128.ReducesTo [0, 1] S_
  h_S_ : 0 < S_.numel
  reducesTo_S128x2_S_d0_1 : S128x2.ReducesTo [0, 1] S_
  shapeCasts_S1_S_ : S1.ShapeCasts S_
  bcast_S_S20x20 : S_.BroadcastsInDim S20x20 (![] : Fin 0 → Fin S20x20.rank)
  reducesTo_S20x20_S_d0_1 : S20x20.ReducesTo [0, 1] S_
  dot_S20x16_S16x20_S20x20_1_0_0_1_n_n_wf : DotDims.WF S20x16 S16x20 S20x20 [1] [0] [0] [1] [] []

variable [Facts]

def dot_S20x16_S16x20_S20x20_1_0_0_1_n_n : DotDims S20x16 S16x20 S20x20 where
  lhsContracting := [1]
  rhsContracting := [0]
  lhsNonContracting := [0]
  rhsNonContracting := [1]
  lhsBatch := []
  rhsBatch := []
  wf := dot_S20x16_S16x20_S20x20_1_0_0_1_n_n_wf
def fn_part3 {F : FTy → Type} [FloatOps F] (main_v32 : FVec F S20x20 .f32) (main_v48 : IVec S_ 1) (main_v50 : IVec S_ 1) (main_v52 : IVec S20x20 1) : IVec S_ 1 :=
  let main_cst_17 : FVec F S_ .f32 := constant S_ .f32 0x7F800000#32
  let main_v53 : FVec F S20x20 .f32 := broadcastInDim S20x20 ![] bcast_S_S20x20 main_cst_17
  let main_v54 : IVec S20x20 1 := cmpf .olt main_v32 main_v53
  let main_v55 : IVec S20x20 1 := andi main_v52 main_v54
  let main_c_18 : IVec S_ 1 := constantI S_ 1 1#1
  let main_v56 : IVec S_ 1 := (fun x v => Host.reduce IntOp.andi x v reducesTo_S20x20_S_d0_1 h_S_) main_v55 main_c_18
  let main_v57 : IVec S_ 1 := ori main_v50 main_v56
  let main_v58 : IVec S_ 1 := andi main_v48 main_v57
  main_v58

def fn_part2 {F : FTy → Type} [FloatOps F] (main_arg0 : IVec S256x128 32) (main_arg1 : IVec S256x128 32) (main_arg4 : FVec F S1 .f32) (main_arg5 : IVec S128x2 32) (main_v30 : IVec S128x2 32) (main_v32 : FVec F S20x20 .f32) (main_v34 : IVec S256x128 1) (main_v35 : IVec S256x128 32) : IVec S_ 1 :=
  let main_v36 : IVec S256x128 1 := cmpi .slt main_arg0 main_v35
  let main_v37 : IVec S256x128 1 := andi main_v34 main_v36
  let main_c_11 : IVec S_ 1 := constantI S_ 1 1#1
  let main_v38 : IVec S_ 1 := (fun x v => Host.reduce IntOp.andi x v reducesTo_S256x128_S_d0_1 h_S_) main_v37 main_c_11
  let main_c_12 : IVec S_ 32 := constantI S_ 32 0#32
  let main_v39 : IVec S256x128 32 := broadcastInDim S256x128 ![] bcast_S_S256x128 main_c_12
  let main_v40 : IVec S256x128 1 := cmpi .sge main_arg1 main_v39
  let main_c_13 : IVec S_ 32 := constantI S_ 32 20#32
  let main_v41 : IVec S256x128 32 := broadcastInDim S256x128 ![] bcast_S_S256x128 main_c_13
  let main_v42 : IVec S256x128 1 := cmpi .slt main_arg1 main_v41
  let main_v43 : IVec S256x128 1 := andi main_v40 main_v42
  let main_c_14 : IVec S_ 1 := constantI S_ 1 1#1
  let main_v44 : IVec S_ 1 := (fun x v => Host.reduce IntOp.andi x v reducesTo_S256x128_S_d0_1 h_S_) main_v43 main_c_14
  let main_v45 : IVec S_ 1 := andi main_v38 main_v44
  let main_v46 : IVec S128x2 1 := cmpi .eq main_arg5 main_v30
  let main_c_15 : IVec S_ 1 := constantI S_ 1 1#1
  let main_v47 : IVec S_ 1 := (fun x v => Host.reduce IntOp.andi x v reducesTo_S128x2_S_d0_1 h_S_) main_v46 main_c_15
  let main_v48 : IVec S_ 1 := andi main_v45 main_v47
  let main_v49 : FVec F S_ .f32 := shapeCast S_ main_arg4 shapeCasts_S1_S_
  let main_cst : FVec F S_ .f32 := constant S_ .f32 0x3F800000#32
  let main_v50 : IVec S_ 1 := cmpf .oeq main_v49 main_cst
  let main_cst_16 : FVec F S_ .f32 := constant S_ .f32 0x00000000#32
  let main_v51 : FVec F S20x20 .f32 := broadcastInDim S20x20 ![] bcast_S_S20x20 main_cst_16
  let main_v52 : IVec S20x20 1 := cmpf .ogt main_v32 main_v51
  fn_part3 (F := F) main_v32 main_v48 main_v50 main_v52

def fn_part1 {F : FTy → Type} [FloatOps F] (main_arg0 : IVec S256x128 32) (main_arg1 : IVec S256x128 32) (main_arg2 : FVec F S20x16 .f32) (main_arg4 : FVec F S1 .f32) (main_arg5 : IVec S128x2 32) (main_v1 : IVec S128x2 32) (main_v4 : IVec S128x2 32) (main_v7 : IVec S128x2 32) (main_v15 : IVec S128x2 32) (main_v17 : IVec S128x2 32) : IVec S_ 1 :=
  let main_v18 : IVec S128x2 32 := muli main_v15 main_v17
  let main_c_5 : IVec S_ 32 := constantI S_ 32 2#32
  let main_v19 : IVec S128x2 32 := broadcastInDim S128x2 ![] bcast_S_S128x2 main_c_5
  let main_v20 : IVec S128x2 32 := muli main_v19 main_v1
  let main_c_6 : IVec S_ 32 := constantI S_ 32 1#32
  let main_v21 : IVec S128x2 32 := broadcastInDim S128x2 ![] bcast_S_S128x2 main_c_6
  let main_v22 : IVec S128x2 32 := subi main_v21 main_v20
  let main_v23 : IVec S128x2 32 := muli main_v22 main_v4
  let main_v24 : IVec S128x2 32 := addi main_v18 main_v23
  let main_c_7 : IVec S_ 32 := constantI S_ 32 127#32
  let main_v25 : IVec S128x2 32 := broadcastInDim S128x2 ![] bcast_S_S128x2 main_c_7
  let main_v26 : IVec S128x2 32 := muli main_v25 main_v1
  let main_c_8 : IVec S_ 32 := constantI S_ 32 126#32
  let main_v27 : IVec S128x2 32 := broadcastInDim S128x2 ![] bcast_S_S128x2 main_c_8
  let main_v28 : IVec S128x2 32 := subi main_v27 main_v26
  let main_v29 : IVec S128x2 32 := muli main_v28 main_v7
  let main_v30 : IVec S128x2 32 := addi main_v24 main_v29
  let main_v31 : FVec F S16x20 .f32 := (transpose S16x20 [1, 0] · transposes_S20x16_S16x20_1_0) main_arg2
  let main_v32 : FVec F S20x20 .f32 := (fun l r => Host.dotGeneral dot_S20x16_S16x20_S20x20_1_0_0_1_n_n none l r) main_arg2 main_v31
  let main_c_9 : IVec S_ 32 := constantI S_ 32 0#32
  let main_v33 : IVec S256x128 32 := broadcastInDim S256x128 ![] bcast_S_S256x128 main_c_9
  let main_v34 : IVec S256x128 1 := cmpi .sge main_arg0 main_v33
  let main_c_10 : IVec S_ 32 := constantI S_ 32 20#32
  let main_v35 : IVec S256x128 32 := broadcastInDim S256x128 ![] bcast_S_S256x128 main_c_10
  fn_part2 (F := F) main_arg0 main_arg1 main_arg4 main_arg5 main_v30 main_v32 main_v34 main_v35

def fn {F : FTy → Type} [FloatOps F] (main_arg0 : IVec S256x128 32) (main_arg1 : IVec S256x128 32) (main_arg2 : FVec F S20x16 .f32) (main_arg3 : FVec F S1 .f32) (main_arg4 : FVec F S1 .f32) (main_arg5 : IVec S128x2 32) : IVec S_ 1 :=
  let main_v0 : IVec S128x2 32 := iotaInDim S128x2 32 0
  let main_v1 : IVec S128x2 32 := iotaInDim S128x2 32 1
  let main_c : IVec S_ 32 := constantI S_ 32 0#32
  let main_v2 : IVec S128x2 32 := broadcastInDim S128x2 ![] bcast_S_S128x2 main_c
  let main_v3 : IVec S128x2 1 := cmpi .eq main_v0 main_v2
  let main_v4 : IVec S128x2 32 := (extui 32 · natLt_1_32) main_v3
  let main_c_0 : IVec S_ 32 := constantI S_ 32 127#32
  let main_v5 : IVec S128x2 32 := broadcastInDim S128x2 ![] bcast_S_S128x2 main_c_0
  let main_v6 : IVec S128x2 1 := cmpi .eq main_v0 main_v5
  let main_v7 : IVec S128x2 32 := (extui 32 · natLt_1_32) main_v6
  let main_c_1 : IVec S_ 32 := constantI S_ 32 1#32
  let main_v8 : IVec S128x2 32 := broadcastInDim S128x2 ![] bcast_S_S128x2 main_c_1
  let main_v9 : IVec S128x2 32 := subi main_v0 main_v8
  let main_c_2 : IVec S_ 32 := constantI S_ 32 2#32
  let main_v10 : IVec S128x2 32 := broadcastInDim S128x2 ![] bcast_S_S128x2 main_c_2
  let main_v11 : IVec S128x2 32 := muli main_v10 main_v1
  let main_v12 : IVec S128x2 32 := addi main_v9 main_v11
  let main_c_3 : IVec S_ 32 := constantI S_ 32 1#32
  let main_v13 : IVec S128x2 32 := broadcastInDim S128x2 ![] bcast_S_S128x2 main_c_3
  let main_v14 : IVec S128x2 32 := subi main_v13 main_v4
  let main_v15 : IVec S128x2 32 := muli main_v12 main_v14
  let main_c_4 : IVec S_ 32 := constantI S_ 32 1#32
  let main_v16 : IVec S128x2 32 := broadcastInDim S128x2 ![] bcast_S_S128x2 main_c_4
  let main_v17 : IVec S128x2 32 := subi main_v16 main_v7
  fn_part1 (F := F) main_arg0 main_arg1 main_arg2 main_arg4 main_arg5 main_v1 main_v4 main_v7 main_v15 main_v17
-- ==== Kernel.lean ====
abbrev S256x128 : Shape := ⟨2, ![256, 128]⟩
abbrev S20x16 : Shape := ⟨2, ![20, 16]⟩
abbrev S1 : Shape := ⟨1, ![1]⟩
abbrev S128x2 : Shape := ⟨2, ![128, 2]⟩
abbrev S1x1 : Shape := ⟨2, ![1, 1]⟩
abbrev S256x256 : Shape := ⟨2, ![256, 256]⟩
abbrev S20x32768 : Shape := ⟨2, ![20, 32768]⟩
abbrev S20x16384 : Shape := ⟨2, ![20, 16384]⟩
abbrev S64x16384 : Shape := ⟨2, ![64, 16384]⟩
abbrev S128x256 : Shape := ⟨2, ![128, 256]⟩
abbrev S20x20 : Shape := ⟨2, ![20, 20]⟩
abbrev S20x256 : Shape := ⟨2, ![20, 256]⟩
abbrev S32x256 : Shape := ⟨2, ![32, 256]⟩
abbrev S1x256 : Shape := ⟨2, ![1, 256]⟩
abbrev S12x16384 : Shape := ⟨2, ![12, 16384]⟩
abbrev S64x256 : Shape := ⟨2, ![64, 256]⟩
abbrev S127x256 : Shape := ⟨2, ![127, 256]⟩
abbrev S256 : Shape := ⟨1, ![256]⟩
abbrev S256x1 : Shape := ⟨2, ![256, 1]⟩

abbrev nBuf : Space → Nat
  | .hbm => 9
  | .vmem => 13
  | .smem => 3
  | _ => 0

abbrev bufTy : (tb : Table) → Fin (tcTables nBuf tb) → BufTy
  | .hbm, ⟨0, _⟩ => ⟨S256x128, .i32⟩
  | .hbm, ⟨1, _⟩ => ⟨S256x128, .i32⟩
  | .hbm, ⟨2, _⟩ => ⟨S20x16, .f32⟩
  | .hbm, ⟨3, _⟩ => ⟨S1, .f32⟩
  | .hbm, ⟨4, _⟩ => ⟨S1, .f32⟩
  | .hbm, ⟨5, _⟩ => ⟨S128x2, .i32⟩
  | .hbm, ⟨6, _⟩ => ⟨S1x1, .f32⟩
  | .hbm, ⟨7, _⟩ => ⟨S1x1, .f32⟩
  | .hbm, ⟨8, _⟩ => ⟨S256x256, .f32⟩
  | .local _ .vmem, ⟨0, _⟩ => ⟨S256x128, .i32⟩
  | .local _ .vmem, ⟨1, _⟩ => ⟨S256x128, .i32⟩
  | .local _ .vmem, ⟨2, _⟩ => ⟨S20x16, .f32⟩
  | .local _ .vmem, ⟨3, _⟩ => ⟨S256x256, .f32⟩
  | .local _ .vmem, ⟨4, _⟩ => ⟨S20x32768, .bf16⟩
  | .local _ .vmem, ⟨5, _⟩ => ⟨S20x16384, .bf16⟩
  | .local _ .vmem, ⟨6, _⟩ => ⟨S64x16384, .bf16⟩
  | .local _ .vmem, ⟨7, _⟩ => ⟨S20x32768, .bf16⟩
  | .local _ .vmem, ⟨8, _⟩ => ⟨S64x16384, .bf16⟩
  | .local _ .vmem, ⟨9, _⟩ => ⟨S128x256, .f32⟩
  | .local _ .vmem, ⟨10, _⟩ => ⟨S128x256, .f32⟩
  | .local _ .vmem, ⟨11, _⟩ => ⟨S256x256, .f32⟩
  | .local _ .vmem, ⟨12, _⟩ => ⟨S256x256, .f32⟩
  | .local _ .smem, ⟨0, _⟩ => ⟨S20x16, .f32⟩
  | .local _ .smem, ⟨1, _⟩ => ⟨S1x1, .f32⟩
  | .local _ .smem, ⟨2, _⟩ => ⟨S1x1, .f32⟩
  | _, _ => ⟨S256x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg6_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S20x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S256x128 : Shape := ⟨2, ![256, 128]⟩
abbrev S20x16 : Shape := ⟨2, ![20, 16]⟩
abbrev S1 : Shape := ⟨1, ![1]⟩
abbrev S128x2 : Shape := ⟨2, ![128, 2]⟩
abbrev S16x20 : Shape := ⟨2, ![16, 20]⟩
abbrev S20x20 : Shape := ⟨2, ![20, 20]⟩
abbrev S_ : Shape := ⟨0, ![]⟩
abbrev S256x128x1 : Shape := ⟨3, ![256, 128, 1]⟩
abbrev S256x128x2 : Shape := ⟨3, ![256, 128, 2]⟩
abbrev S256x1 : Shape := ⟨2, ![256, 1]⟩
abbrev S256x129 : Shape := ⟨2, ![256, 129]⟩
abbrev S128x2x1 : Shape := ⟨3, ![128, 2, 1]⟩
abbrev S256 : Shape := ⟨1, ![256]⟩
abbrev S1x256 : Shape := ⟨2, ![1, 256]⟩
abbrev S128 : Shape := ⟨1, ![128]⟩
abbrev S256x128x20 : Shape := ⟨3, ![256, 128, 20]⟩
abbrev S256x256x128 : Shape := ⟨3, ![256, 256, 128]⟩
abbrev S65536x128 : Shape := ⟨2, ![65536, 128]⟩
abbrev S65536x1 : Shape := ⟨2, ![65536, 1]⟩
abbrev S65536x129 : Shape := ⟨2, ![65536, 129]⟩
abbrev S65536x128x2 : Shape := ⟨3, ![65536, 128, 2]⟩
abbrev S65536 : Shape := ⟨1, ![65536]⟩
abbrev S256x256 : Shape := ⟨2, ![256, 256]⟩
abbrev S1x1 : Shape := ⟨2, ![1, 1]⟩

abbrev nBuf : Space → Nat
  | .hbm => 144
  | .vmem => 0
  | .smem => 0
  | _ => 0

abbrev hbmTy0_0 (i : Nat) : BufTy := match i % 128 with
  | 0 => ⟨S256x128, .i32⟩
  | 1 => ⟨S256x128, .i32⟩
  | 2 => ⟨S20x16, .f32⟩
  | 3 => ⟨S1, .f32⟩
  | 4 => ⟨S1, .f32⟩
  | 5 => ⟨S128x2, .i32⟩
  | 6 => ⟨S16x20, .f32⟩
  | 7 => ⟨S20x20, .f32⟩
  | 8 => ⟨S_, .i32⟩
  | 9 => ⟨S256x128, .i32⟩
  | 10 => ⟨S256x128, .i1⟩
  | 11 => ⟨S_, .i32⟩
  | 12 => ⟨S256x128, .i32⟩
  | 13 => ⟨S256x128, .i32⟩
  | 14 => ⟨S256x128, .i32⟩
  | 15 => ⟨S_, .i32⟩
  | 16 => ⟨S256x128, .i32⟩
  | 17 => ⟨S256x128, .i1⟩
  | 18 => ⟨S_, .i32⟩
  | 19 => ⟨S256x128, .i32⟩
  | 20 => ⟨S256x128, .i32⟩
  | 21 => ⟨S256x128, .i32⟩
  | 22 => ⟨S256x128x1, .i32⟩
  | 23 => ⟨S256x128x1, .i32⟩
  | 24 => ⟨S256x128x2, .i32⟩
  | 25 => ⟨S256x128, .f32⟩
  | 26 => ⟨S_, .f32⟩
  | 27 => ⟨S256x1, .f32⟩
  | 28 => ⟨S256x129, .f32⟩
  | 29 => ⟨S_, .i32⟩
  | 30 => ⟨S128x2, .i32⟩
  | 31 => ⟨S128x2, .i1⟩
  | 32 => ⟨S_, .i32⟩
  | 33 => ⟨S128x2, .i32⟩
  | 34 => ⟨S128x2, .i32⟩
  | 35 => ⟨S128x2, .i32⟩
  | 36 => ⟨S128x2x1, .i32⟩
  | 37 => ⟨S256x128x2, .f32⟩
  | 38 => ⟨S_, .f32⟩
  | 39 => ⟨S256x128, .f32⟩
  | 40 => ⟨S256x128, .f32⟩
  | 41 => ⟨S256x128, .f32⟩
  | 42 => ⟨S_, .f32⟩
  | 43 => ⟨S256, .f32⟩
  | 44 => ⟨S256x1, .f32⟩
  | 45 => ⟨S_, .i32⟩
  | 46 => ⟨S256x128, .i32⟩
  | 47 => ⟨S256x128, .i1⟩
  | 48 => ⟨S_, .i32⟩
  | 49 => ⟨S256x128, .i32⟩
  | 50 => ⟨S256x128, .i32⟩
  | 51 => ⟨S256x128, .i32⟩
  | 52 => ⟨S_, .i32⟩
  | 53 => ⟨S256x128, .i32⟩
  | 54 => ⟨S256x128, .i1⟩
  | 55 => ⟨S_, .i32⟩
  | 56 => ⟨S256x128, .i32⟩
  | 57 => ⟨S256x128, .i32⟩
  | 58 => ⟨S256x128, .i32⟩
  | 59 => ⟨S256x128x1, .i32⟩
  | 60 => ⟨S256x128x1, .i32⟩
  | 61 => ⟨S256x128x2, .i32⟩
  | 62 => ⟨S256x128, .f32⟩
  | 63 => ⟨S_, .f32⟩
  | 64 => ⟨S256x1, .f32⟩
  | 65 => ⟨S256x129, .f32⟩
  | 66 => ⟨S_, .i32⟩
  | 67 => ⟨S128x2, .i32⟩
  | 68 => ⟨S128x2, .i1⟩
  | 69 => ⟨S_, .i32⟩
  | 70 => ⟨S128x2, .i32⟩
  | 71 => ⟨S128x2, .i32⟩
  | 72 => ⟨S128x2, .i32⟩
  | 73 => ⟨S128x2x1, .i32⟩
  | 74 => ⟨S256x128x2, .f32⟩
  | 75 => ⟨S_, .f32⟩
  | 76 => ⟨S256x128, .f32⟩
  | 77 => ⟨S256x128, .f32⟩
  | 78 => ⟨S256x128, .f32⟩
  | 79 => ⟨S_, .f32⟩
  | 80 => ⟨S256, .f32⟩
  | 81 => ⟨S1x256, .f32⟩
  | 82 => ⟨S128, .i32⟩
  | 83 => ⟨S_, .i32⟩
  | 84 => ⟨S256x128, .i32⟩
  | 85 => ⟨S256x128, .i1⟩
  | 86 => ⟨S_, .i32⟩
  | 87 => ⟨S256x128, .i32⟩
  | 88 => ⟨S256x128, .i32⟩
  | 89 => ⟨S256x128, .i32⟩
  | 90 => ⟨S256x128x1, .i32⟩
  | 91 => ⟨S256x128x20, .f32⟩
  | 92 => ⟨S_, .i32⟩
  | 93 => ⟨S128, .i32⟩
  | 94 => ⟨S128, .i1⟩
  | 95 => ⟨S_, .i32⟩
  | 96 => ⟨S128, .i32⟩
  | 97 => ⟨S128, .i32⟩
  | 98 => ⟨S128, .i32⟩
  | 99 => ⟨S_, .i32⟩
  | 100 => ⟨S256x128, .i32⟩
  | 101 => ⟨S256x128, .i1⟩
  | 102 => ⟨S_, .i32⟩
  | 103 => ⟨S256x128, .i32⟩
  | 104 => ⟨S256x128, .i32⟩
  | 105 => ⟨S256x128, .i32⟩
  | 106 => ⟨S256x128, .i32⟩
  | 107 => ⟨S256x128x1, .i32⟩
  | 108 => ⟨S256x128x1, .i32⟩
  | 109 => ⟨S256x128x2, .i32⟩
  | 110 => ⟨S256x256x128, .f32⟩
  | 111 => ⟨S65536x128, .f32⟩
  | 112 => ⟨S_, .f32⟩
  | 113 => ⟨S65536x1, .f32⟩
  | 114 => ⟨S65536x129, .f32⟩
  | 115 => ⟨S_, .i32⟩
  | 116 => ⟨S128x2, .i32⟩
  | 117 => ⟨S128x2, .i1⟩
  | 118 => ⟨S_, .i32⟩
  | 119 => ⟨S128x2, .i32⟩
  | 120 => ⟨S128x2, .i32⟩
  | 121 => ⟨S128x2, .i32⟩
  | 122 => ⟨S128x2x1, .i32⟩
  | 123 => ⟨S65536x128x2, .f32⟩
  | 124 => ⟨S_, .f32⟩
  | 125 => ⟨S65536x128, .f32⟩
  | 126 => ⟨S65536x128, .f32⟩
  | 127 => ⟨S65536x128, .f32⟩
  | _ => ⟨S256x128, .i32⟩

abbrev hbmTy0_1 (i : Nat) : BufTy := match i % 128 with
  | 0 => ⟨S_, .f32⟩
  | 1 => ⟨S65536, .f32⟩
  | 2 => ⟨S256x256, .f32⟩
  | 3 => ⟨S256x1, .f32⟩
  | 4 => ⟨S256x256, .f32⟩
  | 5 => ⟨S256x256, .f32⟩
  | 6 => ⟨S1x256, .f32⟩
  | 7 => ⟨S256x256, .f32⟩
  | 8 => ⟨S256x256, .f32⟩
  | 9 => ⟨S1, .f32⟩
  | 10 => ⟨S1x1, .f32⟩
  | 11 => ⟨S256x256, .f32⟩
  | 12 => ⟨S256x256, .f32⟩
  | 13 => ⟨S1x1, .f32⟩
  | 14 => ⟨S256x256, .f32⟩
  | 15 => ⟨S256x256, .f32⟩
  | _ => ⟨S256x128, .i32⟩

abbrev hbmTy (i : Nat) : BufTy := match i / 128 with
  | 0 => hbmTy0_0 i
  | 1 => hbmTy0_1 i
  | _ => ⟨S256x128, .i32⟩

abbrev bufTy : (tb : Table) → Fin (tcTables nBuf tb) → BufTy
  | .hbm, ⟨i, _⟩ => hbmTy i
  | _, _ => ⟨S256x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_9 : Ref sig .tc := ⟨.hbm, 52, rfl⟩
abbrev main_v35 : Ref sig .tc := ⟨.hbm, 53, rfl⟩
abbrev main_v36 : Ref sig .tc := ⟨.hbm, 54, rfl⟩
abbrev main_c_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_c_12 : Ref sig .tc := ⟨.hbm, 66, rfl⟩
abbrev main_v46 : Ref sig .tc := ⟨.hbm, 67, rfl⟩
abbrev main_v47 : Ref sig .tc := ⟨.hbm, 68, rfl⟩
abbrev main_c_13 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_15 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_16 : Ref sig .tc := ⟨.hbm, 83, rfl⟩
abbrev main_v59 : Ref sig .tc := ⟨.hbm, 84, rfl⟩
abbrev main_v60 : Ref sig .tc := ⟨.hbm, 85, rfl⟩
abbrev main_c_17 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_18 : Ref sig .tc := ⟨.hbm, 92, rfl⟩
abbrev main_v66 : Ref sig .tc := ⟨.hbm, 93, rfl⟩
abbrev main_v67 : Ref sig .tc := ⟨.hbm, 94, rfl⟩
abbrev main_c_19 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_20 : Ref sig .tc := ⟨.hbm, 99, rfl⟩
abbrev main_v71 : Ref sig .tc := ⟨.hbm, 100, rfl⟩
abbrev main_v72 : Ref sig .tc := ⟨.hbm, 101, rfl⟩
abbrev main_c_21 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_22 : Ref sig .tc := ⟨.hbm, 112, rfl⟩
abbrev main_v82 : Ref sig .tc := ⟨.hbm, 113, rfl⟩
abbrev main_v83 : Ref sig .tc := ⟨.hbm, 114, rfl⟩
abbrev main_c_23 : Ref sig .tc := ⟨.hbm, 115, rfl⟩
abbrev main_v84 : Ref sig .tc := ⟨.hbm, 116, rfl⟩
abbrev main_v85 : Ref sig .tc := ⟨.hbm, 117, rfl⟩
abbrev main_c_24 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_25 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_26 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩

abbrev nD : Nat := 1
abbrev τ : Topo := Topo.v7x

variable {F : FTy → Type} [FloatOps F]
-- ==== Proof.Ssk.Stages.lean ====
/- The kernel's body as a short program: one definition per buffer it fills, each list of stores written by recursion
   over the site it belongs to. `Unroll.lean` shows that the stores the run found are these lists. -/
module

public import proofs.«01_k».proof.Proof.Gen.KernelIdeal.Value

@[expose] public section

noncomputable section

namespace Cert.Ssk

open Cert.KernelIdeal Cert.KernelIdeal.Gen Idealize.ShloMosaic Idealize.ShloMosaic.TcCoe Idealize.SL.Sem

variable {F : FTy → Type} [FloatOps F]

/-! ## The in-bounds facts of a block of 256 columns -/

theorem inbRow (i : ℕ) (h : i < 128) : ∀ a, (![i, 0] : Fin 2 → ℕ) a + S1x256.size a ≤ S128x256.size a :=
  fun a => match a with
  | ⟨0, _⟩ => (by show i + 1 ≤ 128; omega)
  | ⟨1, _⟩ => (by show 0 + 256 ≤ 256; omega)

theorem inb20w (i : ℕ) (h : i < 128) : ∀ a, (![0, 256 * i] : Fin 2 → ℕ) a + S20x256.size a ≤ S20x32768.size a :=
  fun a => match a with
  | ⟨0, _⟩ => (by show 0 + 20 ≤ 20; omega)
  | ⟨1, _⟩ => (by show 256 * i + 256 ≤ 32768; omega)

theorem inb20n (i : ℕ) (h : i < 64) : ∀ a, (![0, 256 * i] : Fin 2 → ℕ) a + S20x256.size a ≤ S20x16384.size a :=
  fun a => match a with
  | ⟨0, _⟩ => (by show 0 + 20 ≤ 20; omega)
  | ⟨1, _⟩ => (by show 256 * i + 256 ≤ 16384; omega)

theorem inb32 (r i : ℕ) (hr : r ≤ 32) (h : i < 64) : ∀ a, (![r, 256 * i] : Fin 2 → ℕ) a + S32x256.size a ≤ S64x16384.size a :=
  fun a => match a with
  | ⟨0, _⟩ => (by show r + 32 ≤ 64; omega)
  | ⟨1, _⟩ => (by show 256 * i + 256 ≤ 16384; omega)

theorem inbBand (r i : ℕ) (hr : r ≤ 32) (h : i < 64) : ∀ a, (![r, 256 * i] : Fin 2 → ℕ) a + S20x256.size a ≤ S64x16384.size a :=
  fun a => match a with
  | ⟨0, _⟩ => (by show r + 20 ≤ 64; omega)
  | ⟨1, _⟩ => (by show 256 * i + 256 ≤ 16384; omega)

theorem inbPad (r : ℕ) (hr : r ≤ 52) : ∀ a, (![r, 0] : Fin 2 → ℕ) a + S12x16384.size a ≤ S64x16384.size a :=
  fun a => match a with
  | ⟨0, _⟩ => (by show r + 12 ≤ 64; omega)
  | ⟨1, _⟩ => (by show 0 + 16384 ≤ 16384; omega)

theorem inb64 (i : ℕ) (h : i < 64) : ∀ a, (![0, 256 * i] : Fin 2 → ℕ) a + S64x256.size a ≤ S64x16384.size a :=
  fun a => match a with
  | ⟨0, _⟩ => (by show 0 + 64 ≤ 64; omega)
  | ⟨1, _⟩ => (by show 256 * i + 256 ≤ 16384; omega)

theorem inbOne (c k : ℕ) (hc : c < 20) (hk : k < 16) : ∀ a, (![c, k] : Fin 2 → ℕ) a + S1x1.size a ≤ S20x16.size a :=
  fun a => match a with
  | ⟨0, _⟩ => (by show c + 1 ≤ 20; omega)
  | ⟨1, _⟩ => (by show k + 1 ≤ 16; omega)

/-! ## The transposed residues and their one-hot blocks -/

/-- The store of the transposed residues. -/
def xtL (x : Vec F S256x128 .i32) : List (View.Piece (Elt F) S128x256 .f32) :=
  [⟨Rect.unit ![0, 0] S128x256.size inb_S128x256_S128x256_0_0, k0_pay3 x⟩]

/-- Row `i` of the transposed residues, loaded. -/
def row (v : View sig .tc .vmem S128x256 .f32) (x : Vec F S256x128 .i32) (i : ℕ) (h : i < 128) : Vec F S1x256 .f32 :=
  v.readCov (xtL x) (Rect.unit (s := S128x256) ![i, 0] S1x256.size (inbRow i h)).toLoadRect

/-- The whole of the transposed residues, loaded. -/
def xtAll (v : View sig .tc .vmem S128x256 .f32) (x : Vec F S256x128 .i32) : Vec F S128x256 .f32 :=
  v.readCov (xtL x) (Rect.unit ![0, 0] S128x256.size inb_S128x256_S128x256_0_0).toLoadRect

/-- The one-hot block of a row, twenty rows tall. -/
def hot20 (w : Vec F S1x256 .f32) : FVec F S20x256 .bf16 := k0_pay8 w

/-- The one-hot block of a row, padded to thirty-two rows. -/
def hot32 (w : Vec F S1x256 .f32) : FVec F S32x256 .bf16 := k0_pay10 (k0_pay9 w)

/-- The stores of the first argument's one-hot blocks, sites below `k`. -/
def oh1L (v : View sig .tc .vmem S128x256 .f32) (x : Vec F S256x128 .i32) : (k : ℕ) → k ≤ 128 → List (View.Piece (Elt F) S20x32768 .bf16) :=
  fun k => Nat.rec (motive := fun k => k ≤ 128 → List (View.Piece (Elt F) S20x32768 .bf16)) (fun _ => [])
    (fun k ih h => ⟨Rect.unit ![0, 256 * k] S20x256.size (inb20w k h), hot20 (row v x k h)⟩ :: ih (Nat.le_of_succ_le h)) k

/-- The stores of the second argument's one-hot blocks at the odd sites, the first `k` of them. -/
def oh2L (v : View sig .tc .vmem S128x256 .f32) (x : Vec F S256x128 .i32) : (k : ℕ) → k ≤ 64 → List (View.Piece (Elt F) S20x16384 .bf16) :=
  fun k => Nat.rec (motive := fun k => k ≤ 64 → List (View.Piece (Elt F) S20x16384 .bf16)) (fun _ => [])
    (fun k ih h => ⟨Rect.unit ![0, 256 * k] S20x256.size (inb20n k h), hot20 (row v x (2 * k + 1) (by omega))⟩
      :: ih (Nat.le_of_succ_le h)) k

/-- The stores of the second argument's one-hot blocks at the even sites, in pairs: site `2 k` in the upper half of
    block `k` and in the lower half of block `k - 1`. -/
def oh2pL (v : View sig .tc .vmem S128x256 .f32) (x : Vec F S256x128 .i32) : (k : ℕ) → k < 64 → List (View.Piece (Elt F) S64x16384 .bf16) :=
  fun k => Nat.rec (motive := fun k => k < 64 → List (View.Piece (Elt F) S64x16384 .bf16))
    (fun h => [⟨Rect.unit ![0, 256 * 0] S32x256.size (inb32 0 0 (by omega) h), hot32 (row v x (2 * 0) (by omega))⟩])
    (fun k ih h => ⟨Rect.unit ![32, 256 * k] S32x256.size (inb32 32 k (by omega) (by omega)), hot32 (row v x (2 * (k + 1)) (by omega))⟩
      :: ⟨Rect.unit ![0, 256 * (k + 1)] S32x256.size (inb32 0 (k + 1) (by omega) h), hot32 (row v x (2 * (k + 1)) (by omega))⟩
      :: ih (Nat.lt_of_succ_lt h)) k

/-- … with the zeros of the last block's lower half. -/
def oh2pAll (v : View sig .tc .vmem S128x256 .f32) (x : Vec F S256x128 .i32) : List (View.Piece (Elt F) S64x16384 .bf16) :=
  ⟨Rect.unit ![32, 256 * 63] S32x256.size (inb32 32 63 (by omega) (by omega)), k0_pay425⟩ :: oh2pL v x 63 (by omega)

/-! ## The rows of the similarity, site by site -/

/-- The similarities of every residue with the first argument's residue, at every site: one matrix product. -/
def simL (v7 : View sig .tc .vmem S20x32768 .bf16) (v12 : View sig .tc .vmem S128x256 .f32) (A : Vec F S20x16 .f32) (x : Vec F S256x128 .i32) :
    List (View.Piece (Elt F) S20x32768 .bf16) :=
  [⟨Rect.unit ![0, 0] S20x32768.size inb_S20x32768_S20x32768_0_0, k0_pay426 (k0_pay2 A)
    (v7.readCov (oh1L v12 x 128 (Nat.le_refl _)) (Rect.unit ![0, 0] S20x32768.size inb_S20x32768_S20x32768_0_0).toLoadRect)⟩]

/-- Block `i` of those similarities, loaded. -/
def simAt (v10 v7 : View sig .tc .vmem S20x32768 .bf16) (v12 : View sig .tc .vmem S128x256 .f32) (A : Vec F S20x16 .f32) (x : Vec F S256x128 .i32)
    (i : ℕ) (h : i < 128) : Vec F S20x256 .bf16 :=
  v10.readCov (simL v7 v12 A x) (Rect.unit (s := S20x32768) ![0, 256 * i] S20x256.size (inb20w i h)).toLoadRect

/-- The same block as it is stored again. -/
def simCopy (w : Vec F S20x256 .bf16) : FVec F S20x256 .bf16 := k0_pay556 w

/-- The stores of the paired similarities: the zero bands, then the even sites in pairs. -/
def pairL (v10 v7 : View sig .tc .vmem S20x32768 .bf16) (v12 : View sig .tc .vmem S128x256 .f32) (A : Vec F S20x16 .f32) (x : Vec F S256x128 .i32) :
    (k : ℕ) → k < 64 → List (View.Piece (Elt F) S64x16384 .bf16) :=
  fun k => Nat.rec (motive := fun k => k < 64 → List (View.Piece (Elt F) S64x16384 .bf16))
    (fun h => [⟨Rect.unit ![0, 256 * 0] S20x256.size (inbBand 0 0 (by omega) h), simCopy (simAt v10 v7 v12 A x (2 * 0) (by omega))⟩,
      ⟨Rect.unit ![52, 0] S12x16384.size (inbPad 52 (by omega)), shapeCast S12x16384 k0_pay427 shapeCasts_S12x16384_S12x16384⟩,
      ⟨Rect.unit ![20, 0] S12x16384.size (inbPad 20 (by omega)), shapeCast S12x16384 k0_pay427 shapeCasts_S12x16384_S12x16384⟩])
    (fun k ih h => ⟨Rect.unit ![32, 256 * k] S20x256.size (inbBand 32 k (by omega) (by omega)), simCopy (simAt v10 v7 v12 A x (2 * (k + 1)) (by omega))⟩
      :: ⟨Rect.unit ![0, 256 * (k + 1)] S20x256.size (inbBand 0 (k + 1) (by omega) h), simCopy (simAt v10 v7 v12 A x (2 * (k + 1)) (by omega))⟩
      :: ih (Nat.lt_of_succ_lt h)) k

/-- … with the zeros of the last block's lower half. -/
def pairAll (v10 v7 : View sig .tc .vmem S20x32768 .bf16) (v12 : View sig .tc .vmem S128x256 .f32) (A : Vec F S20x16 .f32) (x : Vec F S256x128 .i32) :
    List (View.Piece (Elt F) S64x16384 .bf16) :=
  ⟨Rect.unit ![32, 256 * 63] S20x256.size (inbBand 32 63 (by omega) (by omega)), k0_pay557⟩ :: pairL v10 v7 v12 A x 63 (by omega)

/-! ## The two accumulators -/

/-- One accumulation: the product of the similarity at an odd site and the sum of its neighbours', added. -/
def accStep (acc : Vec F S256x256 .f32) (s o : Vec F S20x256 .bf16) (p q : Vec F S64x256 .bf16) : FVec F S256x256 .f32 :=
  k0_pay560 acc s o p q

/-- The stores of an accumulator after `k` steps, the step's four operands given. -/
def accL (va : View sig .tc .vmem S256x256 .f32) (s o : (k : ℕ) → k < 32 → Vec F S20x256 .bf16) (p q : (k : ℕ) → k < 32 → Vec F S64x256 .bf16) :
    (k : ℕ) → k ≤ 32 → List (View.Piece (Elt F) S256x256 .f32) :=
  fun k => Nat.rec (motive := fun k => k ≤ 32 → List (View.Piece (Elt F) S256x256 .f32))
    (fun _ => [⟨Rect.unit ![0, 0] S256x256.size inb_S256x256_S256x256_0_0, k0_pay558⟩])
    (fun k ih h => ⟨Rect.unit ![0, 0] S256x256.size inb_S256x256_S256x256_0_0,
        accStep (va.readCov (ih (Nat.le_of_succ_le h)) (Rect.unit ![0, 0] S256x256.size inb_S256x256_S256x256_0_0).toLoadRect)
          (s k h) (o k h) (p k h) (q k h)⟩ :: ih (Nat.le_of_succ_le h)) k

/-- An accumulator, loaded. -/
def accAll (va : View sig .tc .vmem S256x256 .f32) (s o : (k : ℕ) → k < 32 → Vec F S20x256 .bf16) (p q : (k : ℕ) → k < 32 → Vec F S64x256 .bf16) :
    Vec F S256x256 .f32 :=
  va.readCov (accL va s o p q 32 (Nat.le_refl _)) (Rect.unit ![0, 0] S256x256.size inb_S256x256_S256x256_0_0).toLoadRect

/-- The views of the scratch buffers. -/
structure Views where
  v7 : View sig .tc .vmem S20x32768 .bf16
  v8 : View sig .tc .vmem S20x16384 .bf16
  v9 : View sig .tc .vmem S64x16384 .bf16
  v10 : View sig .tc .vmem S20x32768 .bf16
  v11 : View sig .tc .vmem S64x16384 .bf16
  v12 : View sig .tc .vmem S128x256 .f32
  v13 : View sig .tc .vmem S128x256 .f32
  v14 : View sig .tc .vmem S256x256 .f32
  v15 : View sig .tc .vmem S256x256 .f32

/-- The accumulator of the sites `4 k + 1 + 2 b`. -/
def accOf (V : Views) (va : View sig .tc .vmem S256x256 .f32) (b : ℕ) (hb : b ≤ 1) (x0 x1 : Vec F S256x128 .i32) (A : Vec F S20x16 .f32) : Vec F S256x256 .f32 :=
  accAll va
    (fun k h => simAt V.v10 V.v7 V.v12 A x0 (2 * (2 * k + b) + 1) (by omega))
    (fun k h => V.v8.readCov (oh2L V.v13 x1 64 (Nat.le_refl _)) (Rect.unit (s := S20x16384) ![0, 256 * (2 * k + b)] S20x256.size (inb20n (2 * k + b) (by omega))).toLoadRect)
    (fun k h => V.v11.readCov (pairAll V.v10 V.v7 V.v12 A x0) (Rect.unit (s := S64x16384) ![0, 256 * (2 * k + b)] S64x256.size (inb64 (2 * k + b) (by omega))).toLoadRect)
    (fun k h => V.v9.readCov (oh2pAll V.v13 x1) (Rect.unit (s := S64x16384) ![0, 256 * (2 * k + b)] S64x256.size (inb64 (2 * k + b) (by omega))).toLoadRect)

/-! ## The self-similarities -/

theorem onePos : 0 < S1x1.numel := by decide

/-- The factor entry `A[c, k]`, loaded as a scalar. -/
def entry (A : Vec F S20x16 .f32) (c k : ℕ) (hc : c < 20) (hk : k < 16) : Elt F .f32 :=
  View.ld A (Rect.unit ![c, k] S1x1.size (inbOne c k hc hk)) (Shape.Idx.first onePos)

/-- The sum of the squares of row `c`, entries up to `k`. -/
def sqSum (A : Vec F S20x16 .f32) (c : ℕ) (hc : c < 20) : (k : ℕ) → k < 16 → F .f32 :=
  fun k => Nat.rec (motive := fun k => k < 16 → F .f32)
    (fun h => Scalar.mulf (entry A c 0 hc h) (entry A c 0 hc h))
    (fun k ih h => Scalar.addf (ih (Nat.lt_of_succ_lt h)) (Scalar.mulf (entry A c (k + 1) hc h) (entry A c (k + 1) hc h))) k

/-- The words of the floats 1 to 19. -/
def labels : Fin 19 → BitVec 32 :=
  ![0x3F800000#32, 0x40000000#32, 0x40400000#32, 0x40800000#32, 0x40A00000#32, 0x40C00000#32, 0x40E00000#32, 0x41000000#32, 0x41100000#32,
    0x41200000#32, 0x41300000#32, 0x41400000#32, 0x41500000#32, 0x41600000#32, 0x41700000#32, 0x41800000#32, 0x41880000#32, 0x41900000#32,
    0x41980000#32]

/-- The self-similarity at every site, chosen by comparing the residue with each label up to `c`. -/
def selfSim (A : Vec F S20x16 .f32) (xt : Vec F S128x256 .f32) : (c : ℕ) → c < 20 → FVec F S128x256 .f32 :=
  fun c => Nat.rec (motive := fun c => c < 20 → FVec F S128x256 .f32)
    (fun h => broadcast S128x256 (sqSum A 0 h 15 (by omega)))
    (fun c ih h => select (cmpf .oeq xt (broadcast S128x256 (Scalar.ofBits .f32 (labels ⟨c, by omega⟩))))
      (broadcast S128x256 (sqSum A (c + 1) h 15 (by omega))) (ih (Nat.lt_of_succ_lt h))) c

/-- The sums over the path of products of neighbouring self-similarities. -/
def selfRow (d : FVec F S128x256 .f32) : FVec F S1x256 .f32 :=
  shapeCast S1x256 (multiReduction .add [0] S256
    (mulf (extractStridedSlice S127x256 ![0, 0] d slices_S128x256_o0_0_S127x256) (extractStridedSlice S127x256 ![1, 0] d slices_S128x256_o1_0_S127x256))
    0x00000000#32 reduces_S127x256_S256 (.inl rfl) rfl) shapeCasts_S256_S1x256

/-- The value stored to the output. -/
def outVal (V : Views) (x0 x1 : Vec F S256x128 .i32) (x2 x3 : Vec F S20x16 .f32) (x4 x5 : Vec F S1x1 .f32) : FVec F S256x256 .f32 :=
  k0_pay1 (k0_pay640 (accOf V V.v14 0 (by omega) x0 x1 x2) (accOf V V.v15 1 (by omega) x0 x1 x2))
    (selfRow (selfSim x3 (xtAll V.v13 x1) 19 (by omega)))
    (transpose S256x1 [1, 0] (mulf (broadcast S1x256 (Scalar.ofBits .f32 0x40000000#32)) (selfRow (selfSim x3 (xtAll V.v12 x0) 19 (by omega))))
      transposes_S1x256_p1_0_S256x1)
    k0_pay713 (View.ld x4 (Rect.unit ![0, 0] S1x1.size inb_S1x1_S1x1_0_0) (Shape.Idx.first (by decide)))
    (View.ld x5 (Rect.unit ![0, 0] S1x1.size inb_S1x1_S1x1_0_0) (Shape.Idx.first (by decide)))

end Cert.Ssk

end
-- ==== Proof.Ssk.Unroll.lean ====
/- The stores the run found are the lists of `Stages.lean`. -/
module

public import proofs.«01_k».proof.Proof.Ssk.Stages

@[expose] public section

noncomputable section

namespace Cert.Ssk

open Cert.KernelIdeal Cert.KernelIdeal.Gen Idealize.ShloMosaic Idealize.ShloMosaic.TcCoe Idealize.SL.Sem

variable {F : FTy → Type} [FloatOps F]

variable (c : Dev nD) (arg0 : Memref sig .tc .vmem S256x128 .i32) (harg0 : arg0.IsWhole) (arg1 : Memref sig .tc .vmem S256x128 .i32) (harg1 : arg1.IsWhole)
  (arg2 : Memref sig .tc .vmem S20x16 .f32) (harg2 : arg2.IsWhole) (arg3 : Memref sig .tc .smem S20x16 .f32) (harg3 : arg3.IsWhole)
  (arg4 : Memref sig .tc .smem S1x1 .f32) (harg4 : arg4.IsWhole) (arg5 : Memref sig .tc .smem S1x1 .f32) (harg5 : arg5.IsWhole)
  (arg6 : Memref sig .tc .vmem S256x256 .f32) (harg6 : arg6.IsWhole)
  (arg7 : Memref sig .tc .vmem S20x32768 .bf16) (harg7 : arg7.IsWhole) (arg8 : Memref sig .tc .vmem S20x16384 .bf16) (harg8 : arg8.IsWhole)
  (arg9 : Memref sig .tc .vmem S64x16384 .bf16) (harg9 : arg9.IsWhole) (arg10 : Memref sig .tc .vmem S20x32768 .bf16) (harg10 : arg10.IsWhole)
  (arg11 : Memref sig .tc .vmem S64x16384 .bf16) (harg11 : arg11.IsWhole) (arg12 : Memref sig .tc .vmem S128x256 .f32) (harg12 : arg12.IsWhole)
  (arg13 : Memref sig .tc .vmem S128x256 .f32) (harg13 : arg13.IsWhole) (arg14 : Memref sig .tc .vmem S256x256 .f32) (harg14 : arg14.IsWhole)
  (arg15 : Memref sig .tc .vmem S256x256 .f32) (harg15 : arg15.IsWhole)
  (x0 : Vec F S256x128 .i32) (x1 : Vec F S256x128 .i32) (x2 : Vec F S20x16 .f32) (x3 : Vec F S20x16 .f32) (x4 : Vec F S1x1 .f32) (x5 : Vec F S1x1 .f32)

/-- What the body loads of an argument of residues. -/
abbrev loaded (arg : Memref sig .tc .vmem S256x128 .i32) (harg : arg.IsWhole) (x : Vec F S256x128 .i32) : Vec F S256x128 .i32 :=
  View.readAt (Elt F) arg.view (Rect.unit ![0, 0] S256x128.size inb_S256x128_S256x128_0_0).toLoadRect (harg.unread x)

/-- The one-hot blocks of the first argument. -/
theorem oh1_eq : kernelRun0_A.sl.HS0_128 c arg0 harg0 arg12 x0 = oh1L arg12.view (loaded arg0 harg0 x0) 128 (Nat.le_refl _) := by
  sl_kernel_rfl

/-- The one-hot blocks of the second argument at the odd sites. -/
theorem oh2_eq : kernelRun0_A.sl.HS1_64 c arg1 harg1 arg13 x1 = oh2L arg13.view (loaded arg1 harg1 x1) 64 (Nat.le_refl _) := by
  sl_kernel_rfl

/-- The one-hot blocks of the second argument at the even sites. -/
theorem oh2p_eq : kernelRun0_A.sl.HS2_128 c arg1 harg1 arg13 x1 = oh2pAll arg13.view (loaded arg1 harg1 x1) := by
  sl_kernel_rfl

/-- What the body loads of the factors. -/
abbrev loadedA : Vec F S20x16 .f32 :=
  View.readAt (Elt F) arg2.view (Rect.unit ![0, 0] S20x16.size inb_S20x16_S20x16_0_0).toLoadRect (harg2.unread x2)

/-- The similarities, site by site. -/
theorem sim_eq : kernelRun0_A.sl.HS3_1 c arg0 harg0 arg2 harg2 arg7 arg12 x0 x2
    = simL arg7.view arg12.view (loadedA arg2 harg2 x2) (loaded arg0 harg0 x0) := by
  sl_kernel_rfl

/-- The paired similarities. -/
theorem pair_eq : kernelRun0_A.sl.HS4_130 c arg0 harg0 arg2 harg2 arg7 arg10 arg12 x0 x2
    = pairAll arg10.view arg7.view arg12.view (loadedA arg2 harg2 x2) (loaded arg0 harg0 x0) := by
  sl_kernel_rfl

/-- The views of the scratch memrefs. -/
abbrev viewsOf : Views := ⟨arg7.view, arg8.view, arg9.view, arg10.view, arg11.view, arg12.view, arg13.view, arg14.view, arg15.view⟩

/-- The two accumulators, doubled sum. -/
theorem acc_eq : kernelRun0_A.sl.r_75 c arg0 harg0 arg1 harg1 arg2 harg2 arg7 arg8 arg9 arg10 arg11 arg12 arg13 arg14 arg15 x0 x1 x2
    = k0_pay640
      (accOf (viewsOf arg7 arg8 arg9 arg10 arg11 arg12 arg13 arg14 arg15) arg14.view 0 (by omega) (loaded arg0 harg0 x0) (loaded arg1 harg1 x1) (loadedA arg2 harg2 x2))
      (accOf (viewsOf arg7 arg8 arg9 arg10 arg11 arg12 arg13 arg14 arg15) arg15.view 1 (by omega) (loaded arg0 harg0 x0) (loaded arg1 harg1 x1) (loadedA arg2 harg2 x2)) := by
  sl_kernel_rfl

/-- The self-similarity row of the second argument. -/
theorem self2_eq : kernelRun0_A.sl.r_461 c arg1 harg1 arg3 harg3 arg13 x1 x3
    = selfRow (selfSim (arg3.view.read (Elt F) (harg3.unread x3)) (xtAll arg13.view (loaded arg1 harg1 x1)) 19 (by omega)) := by
  sl_kernel_rfl

/-- The run's store to the output. -/
theorem run_eq :
    (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5).1
    = [⟨Rect.unit ![0, 0] S256x256.size inb_S256x256_S256x256_0_0,
        outVal (viewsOf arg7 arg8 arg9 arg10 arg11 arg12 arg13 arg14 arg15) (loaded arg0 harg0 x0) (loaded arg1 harg1 x1) (loadedA arg2 harg2 x2)
          (arg3.view.read (Elt F) (harg3.unread x3)) (arg4.view.read (Elt F) (harg4.unread x4)) (arg5.view.read (Elt F) (harg5.unread x5))⟩] := by
  sl_kernel_rfl

end Cert.Ssk

end
-- ==== Proof.Ssk.Blocks.lean ====
/- Blocks of a two-dimensional buffer: what a list of rectangular stores leaves at one element, and what a load of a
   rectangle reads there. -/
module

public import proofs.«01_k».proof.Proof.Ssk.Stages
public import Idealize.ShloMosaic.Lib.ValueIdx

@[expose] public section

noncomputable section

namespace Cert.Ssk

open Cert.KernelIdeal Cert.KernelIdeal.Gen Idealize.ShloMosaic Idealize.ShloMosaic.TcCoe Idealize.SL.Sem Idealize.ShloMosaic.ValueIdx

variable {Val : EltTy → Type} [∀ e, Nonempty (Val e)] {e : EltTy} {R C h w : ℕ}

/-- The offsets of a whole buffer are zero. -/
theorem zeroOff : (![0, 0] : Fin 2 → ℕ) = fun _ => 0 := by
  funext a
  match a with
  | ⟨0, _⟩ => rfl
  | ⟨1, _⟩ => rfl

/-- An element inside the last stored block is that block's. -/
theorem canon_hit (r c : ℕ) (inb) (P : (⟨2, ![h, w]⟩ : Shape).Idx → Val e) (L : List (View.Piece Val ⟨2, ![R, C]⟩ e))
    (y0 : Fin R) (y1 : Fin C) (a : Fin h) (b : Fin w) (h0 : y0.val = r + a.val) (h1 : y1.val = c + b.val) :
    View.canon (⟨Rect.unit ![r, c] ![h, w] inb, P⟩ :: L) (ix2 y0 y1) = P (ix2 a b) := by
  have hy : (ix2 y0 y1 : (⟨2, ![R, C]⟩ : Shape).Idx) = (Rect.unit (s := ⟨2, ![R, C]⟩) ![r, c] ![h, w] inb).emb (ix2 a b) :=
    funext fun d => Fin.ext (match d with
      | ⟨0, _⟩ => by show y0.val = r + 1 * a.val; omega
      | ⟨1, _⟩ => by show y1.val = c + 1 * b.val; omega)
  rw [hy]
  exact View.canon_cons_emb _ _ _ _

/-- An element outside the last stored block is what the earlier stores left. -/
theorem canon_miss (r c : ℕ) (inb) (P : (⟨2, ![h, w]⟩ : Shape).Idx → Val e) (L : List (View.Piece Val ⟨2, ![R, C]⟩ e))
    (y0 : Fin R) (y1 : Fin C) (hm : y0.val < r ∨ r + h ≤ y0.val ∨ y1.val < c ∨ c + w ≤ y1.val) :
    View.canon (⟨Rect.unit ![r, c] ![h, w] inb, P⟩ :: L) (ix2 y0 y1) = View.canon L (ix2 y0 y1) := by
  refine View.canon_cons_of_not_mem _ _ fun hin => ?_
  have hin' := (Rect.mem_set_unit (inb := inb)).mp hin
  have a0 : r ≤ y0.val ∧ y0.val < r + h := hin' 0
  have a1 : c ≤ y1.val ∧ y1.val < c + w := hin' 1
  omega

/-- A load of a block reads the element at the block's offset. -/
theorem readCov_block {sig : RefSig} {κ : Kind} {sp : Space} (v : View sig κ sp ⟨2, ![R, C]⟩ e) (L : List (View.Piece Val ⟨2, ![R, C]⟩ e))
    (r c : ℕ) (inb) (a : Fin h) (b : Fin w) (y0 : Fin R) (y1 : Fin C) (h0 : y0.val = r + a.val) (h1 : y1.val = c + b.val) :
    v.readCov L (Rect.unit (s := ⟨2, ![R, C]⟩) ![r, c] ![h, w] inb).toLoadRect (ix2 a b) = View.canon L (ix2 y0 y1) := by
  rw [View.readCov_eq_canon']
  show View.canon L _ = _
  congr 1
  exact funext fun d => Fin.ext (match d with
    | ⟨0, _⟩ => by show r + 1 * a.val = y0.val; omega
    | ⟨1, _⟩ => by show c + 1 * b.val = y1.val; omega)

end Cert.Ssk

end
-- ==== Proof.Ssk.Hot.lean ====
/- The one-hot blocks at the extended reals: entry `(r, n)` of a site's block is 1 where the residue is `r`, 0 elsewhere. -/
module

public import proofs.«01_k».proof.Proof.Ssk.Blocks

@[expose] public section

noncomputable section

namespace Cert.Ssk

open Cert.KernelIdeal Cert.KernelIdeal.Gen Idealize.ShloMosaic Idealize.ShloMosaic.TcCoe Idealize.SL.Sem Idealize.ShloMosaic.ValueIdx

/-- The array `x` of words holds the residues `code`. -/
def Codes (x : Vec Ideal S256x128 .i32) (code : Fin 256 → Fin 128 → Fin 20) : Prop :=
  ∀ n i, x (ix2 n i) = BitVec.ofNat 32 (code n i).val

/-- A small natural number, written as a word and read as a float, is that number. -/
theorem sitofp_ofNat (k : ℕ) (hk : k < 2 ^ 31) : (((BitVec.ofNat 32 k).toInt : ℝ) : EReal) = ((k : ℝ) : EReal) := by
  have : (BitVec.ofNat 32 k).toInt = (k : ℤ) := by
    rw [BitVec.toInt_eq_toNat_of_lt (by rw [BitVec.toNat_ofNat]; omega), BitVec.toNat_ofNat]
    omega
  rw [this]
  simp

variable {x : Vec Ideal S256x128 .i32} {code : Fin 256 → Fin 128 → Fin 20}

/-- The transposed residues: entry `(i, n)` is residue `i` of sequence `n`. -/
theorem xt_apply (hx : Codes x code) (i : Fin 128) (n : Fin 256) :
    View.canon (Val := Elt Ideal) (xtL (F := Ideal) x) (ix2 i n) = (((code n i).val : ℝ) : EReal) := by
  unfold xtL k0_pay3
  rw [View.canon_unit_zero zeroOff, shapeCast_self]
  refine (transpose_apply [1, 0] _ _ (ix2 i n) (ix2 n i) (fun b => match b with | ⟨0, _⟩ => rfl | ⟨1, _⟩ => rfl)).trans ?_
  show (((x (ix2 n i)).toInt : ℝ) : EReal) = _
  rw [hx n i, sitofp_ofNat]
  have := (code n i).isLt
  omega

/-- Row `i` of the transposed residues. -/
theorem row_apply (v : View sig .tc .vmem S128x256 .f32) (hx : Codes x code) (i : ℕ) (h : i < 128) (n : Fin 256) :
    row (F := Ideal) v x i h (ix2 0 n) = (((code n ⟨i, h⟩).val : ℝ) : EReal) := by
  unfold row
  exact (readCov_block v _ i 0 _ 0 n ⟨i, h⟩ n (by simp) (by simp)).trans (xt_apply hx ⟨i, h⟩ n)

/-- Whether a one-hot row has its one at `r`. -/
def hot (c r : ℕ) : EReal := if c = r then 1 else 0

/-- The comparison of two small whole numbers, widened to a float. -/
theorem hot_eq (c r : ℕ) : ((((Ideal.cmp .oeq ((r : ℝ) : EReal) ((c : ℝ) : EReal)).setWidth 32).toInt : ℝ) : EReal) = hot c r := by
  unfold hot Ideal.cmp
  by_cases h : c = r
  · subst h; simp
  · have : ¬ ((r : ℝ) : EReal) = ((c : ℝ) : EReal) := by
      intro e
      exact h (by exact_mod_cast (EReal.coe_eq_coe_iff.mp e).symm)
    simp [h, Ne.symm h]

/-- A block of twenty rows. -/
theorem hot20_apply (w : Vec Ideal S1x256 .f32) (c : ℕ) (r : Fin 20) (n : Fin 256) (hw : w (ix2 0 n) = ((c : ℝ) : EReal)) :
    hot20 (F := Ideal) w (ix2 r n) = hot c r := by
  unfold hot20 k0_pay8
  rw [shapeCast_self]
  have hb : broadcastTo S20x256 w broadcasts_S1x256_S20x256 (ix2 r n) = ((c : ℝ) : EReal) := by
    refine (broadcastTo_apply w _ (ix2 r n) (ix2 0 n) (fun a => ?_)).trans hw
    match a with
    | ⟨0, _⟩ => rfl
    | ⟨1, _⟩ => rfl
  have hi : k0_pay5 (F := Ideal) (ix2 r n) = ((r.val : ℝ) : EReal) := by
    unfold k0_pay5
    show (((iota .tc S20x256 32 [0] iota_S20x256_d0_w32 (ix2 r n)).toInt : ℝ) : EReal) = _
    rw [iota_single_apply]
    exact sitofp_ofNat r.val (by have := r.isLt; omega)
  show ((((Ideal.cmp .oeq (k0_pay5 (F := Ideal) (ix2 r n)) (broadcastTo S20x256 w broadcasts_S1x256_S20x256 (ix2 r n))).setWidth 32).toInt : ℝ) : EReal) = _
  rw [hb, hi, hot_eq]

/-- A block of thirty-two rows. -/
theorem hot32_apply (w : Vec Ideal S1x256 .f32) (c : ℕ) (r : Fin 32) (n : Fin 256) (hw : w (ix2 0 n) = ((c : ℝ) : EReal)) :
    hot32 (F := Ideal) w (ix2 r n) = hot c r := by
  unfold hot32 k0_pay10 k0_pay9
  rw [shapeCast_self]
  have hb : broadcastTo S32x256 w broadcasts_S1x256_S32x256 (ix2 r n) = ((c : ℝ) : EReal) := by
    refine (broadcastTo_apply w _ (ix2 r n) (ix2 0 n) (fun a => ?_)).trans hw
    match a with
    | ⟨0, _⟩ => rfl
    | ⟨1, _⟩ => rfl
  have hi : k0_pay7 (F := Ideal) (ix2 r n) = ((r.val : ℝ) : EReal) := by
    unfold k0_pay7
    show (((iota .tc S32x256 32 [0] iota_S32x256_d0_w32 (ix2 r n)).toInt : ℝ) : EReal) = _
    rw [iota_single_apply]
    exact sitofp_ofNat r.val (by have := r.isLt; omega)
  show ((((Ideal.cmp .oeq (k0_pay7 (F := Ideal) (ix2 r n)) (broadcastTo S32x256 w broadcasts_S1x256_S32x256 (ix2 r n))).setWidth 32).toInt : ℝ) : EReal) = _
  rw [hb, hi, hot_eq]

variable (v : View sig .tc .vmem S128x256 .f32)

/-- Every site's block of the first argument. -/
theorem oh1L_apply (hx : Codes x code) (k : ℕ) (hk : k ≤ 128) (i : ℕ) (hi : i < k) (r : Fin 20) (n : Fin 256) (y : Fin 32768)
    (hy : y.val = 256 * i + n.val) :
    View.canon (Val := Elt Ideal) (oh1L (F := Ideal) v x k hk) (ix2 r y) = hot (code n ⟨i, by omega⟩) r := by
  induction k with
  | zero => omega
  | succ k ih =>
    by_cases hik : i = k
    · subst hik
      exact (canon_hit 0 (256 * i) _ _ _ r y r n (by omega) hy).trans (hot20_apply _ _ r n (row_apply v hx i _ n))
    · refine (canon_miss 0 (256 * k) _ _ _ r y ?_).trans (ih (by omega) (by omega))
      have := n.isLt
      right; right; omega

/-- The odd sites' blocks of the second argument. -/
theorem oh2L_apply (hx : Codes x code) (k : ℕ) (hk : k ≤ 64) (i : ℕ) (hi : i < k) (r : Fin 20) (n : Fin 256) (y : Fin 16384)
    (hy : y.val = 256 * i + n.val) :
    View.canon (Val := Elt Ideal) (oh2L (F := Ideal) v x k hk) (ix2 r y) = hot (code n ⟨2 * i + 1, by omega⟩) r := by
  induction k with
  | zero => omega
  | succ k ih =>
    by_cases hik : i = k
    · subst hik
      exact (canon_hit 0 (256 * i) _ _ _ r y r n (by omega) hy).trans (hot20_apply _ _ r n (row_apply v hx _ _ n))
    · refine (canon_miss 0 (256 * k) _ _ _ r y ?_).trans (ih (by omega) (by omega))
      have := n.isLt
      right; right; omega

/-- The even sites' blocks of the second argument, upper half: block `i` holds site `2 i`. -/
theorem oh2pL_upper (hx : Codes x code) (k : ℕ) (hk : k < 64) (i : ℕ) (hi : i ≤ k) (r : Fin 32) (n : Fin 256) (a : Fin 64) (y : Fin 16384)
    (ha : a.val = r.val) (hy : y.val = 256 * i + n.val) :
    View.canon (Val := Elt Ideal) (oh2pL (F := Ideal) v x k hk) (ix2 a y) = hot (code n ⟨2 * i, by omega⟩) r := by
  have hr := r.isLt
  have hn := n.isLt
  induction k with
  | zero =>
    obtain rfl : i = 0 := by omega
    exact (canon_hit 0 (256 * 0) _ _ _ a y r n (by omega) hy).trans (hot32_apply _ _ r n (row_apply v hx _ _ n))
  | succ k ih =>
    refine (canon_miss 32 (256 * k) _ _ _ a y (by left; omega)).trans ?_
    by_cases hik : i = k + 1
    · subst hik
      exact (canon_hit 0 (256 * (k + 1)) _ _ _ a y r n (by omega) hy).trans (hot32_apply _ _ r n (row_apply v hx _ _ n))
    · exact (canon_miss 0 (256 * (k + 1)) _ _ _ a y (by right; right; omega)).trans (ih (by omega) (by omega))

/-- … lower half: block `i` holds site `2 i + 2`. -/
theorem oh2pL_lower (hx : Codes x code) (k : ℕ) (hk : k < 64) (i : ℕ) (hi : i < k) (r : Fin 32) (n : Fin 256) (a : Fin 64) (y : Fin 16384)
    (ha : a.val = 32 + r.val) (hy : y.val = 256 * i + n.val) :
    View.canon (Val := Elt Ideal) (oh2pL (F := Ideal) v x k hk) (ix2 a y) = hot (code n ⟨2 * i + 2, by omega⟩) r := by
  have hr := r.isLt
  have hn := n.isLt
  induction k with
  | zero => omega
  | succ k ih =>
    by_cases hik : i = k
    · subst hik
      exact (canon_hit 32 (256 * i) _ _ _ a y r n (by omega) hy).trans (hot32_apply _ _ r n (row_apply v hx _ _ n))
    · refine (canon_miss 32 (256 * k) _ _ _ a y (by right; right; omega)).trans ?_
      exact (canon_miss 0 (256 * (k + 1)) _ _ _ a y (by right; left; omega)).trans (ih (by omega) (by omega))

end Cert.Ssk

end
-- ==== Proof.Ssk.Sim.lean ====
/- The similarities at the extended reals: the matrix products with the one-hot blocks select similarities, and the
   accumulators are sums over the sites. -/
module

public import proofs.«01_k».proof.Proof.Ssk.Hot
public import Idealize.ShloMosaic.PureOps.Ideal.Laws

@[expose] public section

noncomputable section

namespace Cert.Ssk

open Cert.KernelIdeal Cert.KernelIdeal.Gen Idealize.ShloMosaic Idealize.ShloMosaic.TcCoe Idealize.SL.Sem Idealize.ShloMosaic.ValueIdx

open scoped BigOperators

/-- The similarity of two residues: the inner product of their rows of factors. -/
def sim (A : Vec Ideal S20x16 .f32) (r s : Fin 20) : EReal := ∑ k : Fin 16, A (ix2 r k) * A (ix2 s k)

/-- The similarity of two residues does not depend on their order. -/
theorem sim_comm (A : Vec Ideal S20x16 .f32) (r s : Fin 20) : sim A r s = sim A s r :=
  Finset.sum_congr rfl fun _ _ => mul_comm _ _

/-- A matrix product into zeros with one contracted axis, its operands' indices named. -/
theorem matmul_sum {sl sr so : Shape} {φ₁ φ₂ : FTy} (D : DotDims sl sr so) (N : ℕ) (hr : D.contr.rank = 1)
    (hs : D.contr.size ⟨0, by omega⟩ = N) (l : FVec Ideal sl φ₁) (r : FVec Ideal sr φ₂) (j : so.Idx) (L : Fin N → sl.Idx) (R : Fin N → sr.Idx)
    (hl : ∀ k, D.lhsIdx j ((contrEquiv1 D N hr hs).symm k) = L k) (hR : ∀ k, D.rhsIdx j ((contrEquiv1 D N hr hs).symm k) = R k) :
    matmul D none l r (constant so .f32 0x00000000#32) j = ∑ k : Fin N, l (L k) * r (R k) := by
  refine (Ideal.matmul_constant_zero_apply D none l r j).trans ?_
  rw [← Equiv.sum_comp (contrEquiv1 D N hr hs).symm]
  exact Finset.sum_congr rfl fun k _ => by rw [hl k, hR k]

/-- A sum against a one-hot vector is the entry at its one. -/
theorem sum_hot {N : ℕ} (f : Fin N → EReal) (c : Fin N) : ∑ a : Fin N, f a * hot c a = f c := by
  have : ∀ a : Fin N, f a * hot c a = if c = a then f a else 0 := by
    intro a
    unfold hot
    by_cases h : c = a
    · rw [if_pos h, if_pos (congrArg Fin.val h), mul_one]
    · rw [if_neg h, if_neg (fun e => h (Fin.ext e)), mul_zero]
  rw [Finset.sum_congr rfl fun a _ => this a]
  simp

/-- A sum over sixty-four rows is the sum over the upper and the lower half. -/
theorem sum_halves (f : Fin 64 → EReal) :
    ∑ a : Fin 64, f a = ∑ r : Fin 32, f (Fin.castAdd 32 r : Fin (32 + 32)) + ∑ r : Fin 32, f (Fin.natAdd 32 r : Fin (32 + 32)) :=
  Fin.sum_univ_add (M := EReal) (a := 32) (b := 32) f

/-- The table of similarities. -/
theorem pay2_apply (A : Vec Ideal S20x16 .f32) (r s : Fin 20) : k0_pay2 (F := Ideal) A (ix2 r s) = sim A r s := by
  unfold k0_pay2
  refine matmul_sum (φ₁ := .f32) (φ₂ := .f32) dot_S20x16_S20x16_S20x20_1_1_0_0_n_n 16 rfl rfl A A (ix2 r s) (fun k => ix2 r k) (fun k => ix2 s k) (fun k => ?_) (fun k => ?_)
  · exact funext fun a => Fin.ext (match a with
      | ⟨0, _⟩ => rfl
      | ⟨1, _⟩ => (DotDims.lhsIdx_val_of_single _ rfl _ _).trans (contrEquiv1_symm_val _ 16 rfl rfl k))
  · exact funext fun a => Fin.ext (match a with
      | ⟨0, _⟩ => rfl
      | ⟨1, _⟩ => (DotDims.rhsIdx_val_of_single _ rfl _ _).trans (contrEquiv1_symm_val _ 16 rfl rfl k))

/-- The product of the table with the one-hot blocks, one entry. -/
theorem pay426_apply (S : FVec Ideal S20x20 .bf16) (o : FVec Ideal S20x32768 .bf16) (r : Fin 20) (y : Fin 32768) :
    k0_pay426 (F := Ideal) S o (ix2 r y) = ∑ s : Fin 20, S (ix2 s r) * o (ix2 s y) := by
  unfold k0_pay426
  rw [shapeCast_self]
  refine matmul_sum dot_S20x20_S20x32768_S20x32768_0_0_1_1_n_n 20 rfl rfl S o (ix2 r y) (fun k => ix2 k r) (fun k => ix2 k y) (fun k => ?_) (fun k => ?_)
  · exact funext fun a => Fin.ext (match a with
      | ⟨0, _⟩ => (DotDims.lhsIdx_val_of_single _ rfl _ _).trans (contrEquiv1_symm_val _ 20 rfl rfl k)
      | ⟨1, _⟩ => rfl)
  · exact funext fun a => Fin.ext (match a with
      | ⟨0, _⟩ => (DotDims.rhsIdx_val_of_single _ rfl _ _).trans (contrEquiv1_symm_val _ 20 rfl rfl k)
      | ⟨1, _⟩ => rfl)

/-- One accumulation, one entry. -/
theorem accStep_apply (acc : Vec Ideal S256x256 .f32) (s o : Vec Ideal S20x256 .bf16) (p q : Vec Ideal S64x256 .bf16) (n m : Fin 256) :
    accStep (F := Ideal) acc s o p q (ix2 n m)
      = acc (ix2 n m) + (∑ r : Fin 20, s (ix2 r n) * o (ix2 r m)) * (∑ a : Fin 64, p (ix2 a n) * q (ix2 a m)) := by
  unfold accStep k0_pay560
  rw [shapeCast_self, addf_apply, mulf_apply]
  congr 2
  · refine matmul_sum dot_S20x256_S20x256_S256x256_0_0_1_1_n_n 20 rfl rfl s o (ix2 n m) (fun k => ix2 k n) (fun k => ix2 k m) (fun k => ?_) (fun k => ?_)
    · exact funext fun a => Fin.ext (match a with
        | ⟨0, _⟩ => (DotDims.lhsIdx_val_of_single _ rfl _ _).trans (contrEquiv1_symm_val _ 20 rfl rfl k)
        | ⟨1, _⟩ => rfl)
    · exact funext fun a => Fin.ext (match a with
        | ⟨0, _⟩ => (DotDims.rhsIdx_val_of_single _ rfl _ _).trans (contrEquiv1_symm_val _ 20 rfl rfl k)
        | ⟨1, _⟩ => rfl)
  · refine matmul_sum dot_S64x256_S64x256_S256x256_0_0_1_1_n_n 64 rfl rfl p q (ix2 n m) (fun k => ix2 k n) (fun k => ix2 k m) (fun k => ?_) (fun k => ?_)
    · exact funext fun a => Fin.ext (match a with
        | ⟨0, _⟩ => (DotDims.lhsIdx_val_of_single _ rfl _ _).trans (contrEquiv1_symm_val _ 64 rfl rfl k)
        | ⟨1, _⟩ => rfl)
    · exact funext fun a => Fin.ext (match a with
        | ⟨0, _⟩ => (DotDims.rhsIdx_val_of_single _ rfl _ _).trans (contrEquiv1_symm_val _ 64 rfl rfl k)
        | ⟨1, _⟩ => rfl)

variable {x0 x1 : Vec Ideal S256x128 .i32} {c1 c2 : Fin 256 → Fin 128 → Fin 20}

/-- Block `i` of the similarities: of every residue `r` with residue `i` of sequence `n`. -/
theorem simAt_apply (v10 v7 : View sig .tc .vmem S20x32768 .bf16) (v12 : View sig .tc .vmem S128x256 .f32) (A : Vec Ideal S20x16 .f32)
    (hx : Codes x0 c1) (i : ℕ) (h : i < 128) (r : Fin 20) (n : Fin 256) :
    simAt (F := Ideal) v10 v7 v12 A x0 i h (ix2 r n) = sim A (c1 n ⟨i, h⟩) r := by
  have hn := n.isLt
  have e1 : ∀ (y : Fin 32768), y.val = 256 * i + n.val →
      View.canon (Val := Elt Ideal) (simL (F := Ideal) v7 v12 A x0) (ix2 r y) = sim A (c1 n ⟨i, h⟩) r := by
    intro y hy
    unfold simL
    rw [View.canon_unit_zero zeroOff, pay426_apply]
    rw [← sum_hot (fun s => sim A s r) (c1 n ⟨i, h⟩)]
    refine Finset.sum_congr rfl fun s _ => ?_
    rw [pay2_apply]
    congr 1
    exact (readCov_block v7 _ 0 0 _ s y s y (by omega) (by omega)).trans (oh1L_apply v12 hx 128 _ i h s n y hy)
  unfold simAt
  exact (readCov_block v10 _ 0 (256 * i) _ r n r ⟨256 * i + n.val, by omega⟩ (by omega) rfl).trans (e1 _ rfl)

variable (v10 v7 : View sig .tc .vmem S20x32768 .bf16) (v12 : View sig .tc .vmem S128x256 .f32) (A : Vec Ideal S20x16 .f32)

/-- Stored again, a block is the same. -/
theorem simCopy_eq (w : Vec Ideal S20x256 .bf16) : simCopy (F := Ideal) w = w := by
  unfold simCopy k0_pay556
  exact shapeCast_self _ _

/-- The paired similarities, upper half: block `i` holds site `2 i`. -/
theorem pairL_upper (hx : Codes x0 c1) (k : ℕ) (hk : k < 64) (i : ℕ) (hi : i ≤ k) (r : Fin 20) (n : Fin 256) (a : Fin 64) (y : Fin 16384)
    (ha : a.val = r.val) (hy : y.val = 256 * i + n.val) :
    View.canon (Val := Elt Ideal) (pairL (F := Ideal) v10 v7 v12 A x0 k hk) (ix2 a y) = sim A (c1 n ⟨2 * i, by omega⟩) r := by
  have hr := r.isLt
  have hn := n.isLt
  induction k with
  | zero =>
    obtain rfl : i = 0 := by omega
    refine (canon_hit 0 (256 * 0) _ _ _ a y r n (by omega) hy).trans ?_
    rw [simCopy_eq]
    exact simAt_apply v10 v7 v12 A hx _ _ r n
  | succ k ih =>
    refine (canon_miss 32 (256 * k) _ _ _ a y (by left; omega)).trans ?_
    by_cases hik : i = k + 1
    · subst hik
      refine (canon_hit 0 (256 * (k + 1)) _ _ _ a y r n (by omega) hy).trans ?_
      rw [simCopy_eq]
      exact simAt_apply v10 v7 v12 A hx _ _ r n
    · exact (canon_miss 0 (256 * (k + 1)) _ _ _ a y (by right; right; omega)).trans (ih (by omega) (by omega))

/-- … lower half: block `i` holds site `2 i + 2`. -/
theorem pairL_lower (hx : Codes x0 c1) (k : ℕ) (hk : k < 64) (i : ℕ) (hi : i < k) (r : Fin 20) (n : Fin 256) (a : Fin 64) (y : Fin 16384)
    (ha : a.val = 32 + r.val) (hy : y.val = 256 * i + n.val) :
    View.canon (Val := Elt Ideal) (pairL (F := Ideal) v10 v7 v12 A x0 k hk) (ix2 a y) = sim A (c1 n ⟨2 * i + 2, by omega⟩) r := by
  have hr := r.isLt
  have hn := n.isLt
  induction k with
  | zero => omega
  | succ k ih =>
    by_cases hik : i = k
    · subst hik
      refine (canon_hit 32 (256 * i) _ _ _ a y r n (by omega) hy).trans ?_
      rw [simCopy_eq]
      exact simAt_apply v10 v7 v12 A hx _ _ r n
    · refine (canon_miss 32 (256 * k) _ _ _ a y (by right; right; omega)).trans ?_
      exact (canon_miss 0 (256 * (k + 1)) _ _ _ a y (by right; left; omega)).trans (ih (by omega) (by omega))

/-- The similarity of two sequences at a site, zero past the last site. -/
def siteSim (A : Vec Ideal S20x16 .f32) (c1 c2 : Fin 256 → Fin 128 → Fin 20) (n m : Fin 256) (i : ℕ) : EReal :=
  if h : i < 128 then sim A (c1 n ⟨i, h⟩) (c2 m ⟨i, h⟩) else 0

theorem siteSim_of_lt (n m : Fin 256) (i : ℕ) (h : i < 128) :
    siteSim A c1 c2 n m i = sim A (c1 n ⟨i, h⟩) (c2 m ⟨i, h⟩) := dif_pos h

/-- The product of a site's similarities with its one-hot block is the site's similarity. -/
theorem odd_dot (V : Views) (hx0 : Codes x0 c1) (hx1 : Codes x1 c2) (j : ℕ) (hj : j < 64) (n m : Fin 256) :
    ∑ r : Fin 20, simAt (F := Ideal) V.v10 V.v7 V.v12 A x0 (2 * j + 1) (by omega) (ix2 r n)
      * V.v8.readCov (Val := Elt Ideal) (oh2L (F := Ideal) V.v13 x1 64 (Nat.le_refl _)) (Rect.unit (s := S20x16384) ![0, 256 * j] S20x256.size (inb20n j hj)).toLoadRect (ix2 r m)
      = siteSim A c1 c2 n m (2 * j + 1) := by
  have hm := m.isLt
  rw [siteSim_of_lt A n m _ (by omega), ← sum_hot (fun r => sim A (c1 n ⟨2 * j + 1, by omega⟩) r) (c2 m ⟨2 * j + 1, by omega⟩)]
  refine Finset.sum_congr rfl fun r _ => ?_
  rw [simAt_apply V.v10 V.v7 V.v12 A hx0]
  congr 1
  exact (readCov_block V.v8 _ 0 (256 * j) _ r m r ⟨256 * j + m.val, by omega⟩ (by omega) rfl).trans
    (oh2L_apply V.v13 hx1 64 _ j hj r m _ rfl)

/-- The product of the paired similarities with the paired one-hot blocks is the sum of the two neighbours' similarities. -/
theorem even_dot (V : Views) (hx0 : Codes x0 c1) (hx1 : Codes x1 c2) (j : ℕ) (hj : j < 64) (n m : Fin 256) :
    ∑ a : Fin 64, V.v11.readCov (Val := Elt Ideal) (pairAll (F := Ideal) V.v10 V.v7 V.v12 A x0) (Rect.unit (s := S64x16384) ![0, 256 * j] S64x256.size (inb64 j hj)).toLoadRect (ix2 a n)
      * V.v9.readCov (Val := Elt Ideal) (oh2pAll (F := Ideal) V.v13 x1) (Rect.unit (s := S64x16384) ![0, 256 * j] S64x256.size (inb64 j hj)).toLoadRect (ix2 a m)
      = siteSim A c1 c2 n m (2 * j) + siteSim A c1 c2 n m (2 * j + 2) := by
  have hn := n.isLt
  have hm := m.isLt
  have rp : ∀ (a : Fin 64), V.v11.readCov (Val := Elt Ideal) (pairAll (F := Ideal) V.v10 V.v7 V.v12 A x0) (Rect.unit (s := S64x16384) ![0, 256 * j] S64x256.size (inb64 j hj)).toLoadRect (ix2 a n)
      = View.canon (Val := Elt Ideal) (pairAll (F := Ideal) V.v10 V.v7 V.v12 A x0) (ix2 a ⟨256 * j + n.val, by omega⟩) :=
    fun a => readCov_block V.v11 _ 0 (256 * j) _ a n a _ (by omega) rfl
  have rq : ∀ (a : Fin 64), V.v9.readCov (Val := Elt Ideal) (oh2pAll (F := Ideal) V.v13 x1) (Rect.unit (s := S64x16384) ![0, 256 * j] S64x256.size (inb64 j hj)).toLoadRect (ix2 a m)
      = View.canon (Val := Elt Ideal) (oh2pAll (F := Ideal) V.v13 x1) (ix2 a ⟨256 * j + m.val, by omega⟩) :=
    fun a => readCov_block V.v9 _ 0 (256 * j) _ a m a _ (by omega) rfl
  refine (Finset.sum_congr rfl fun a _ => congrArg₂ (fun u v : EReal => u * v) (rp a) (rq a)).trans ?_
  refine (sum_halves _).trans ?_
  refine congrArg₂ (fun u v : EReal => u + v) ?_ ?_
  · rw [siteSim_of_lt A n m _ (by omega)]
    have hlt := (c2 m ⟨2 * j, by omega⟩).isLt
    have up : ∀ r : Fin 32, View.canon (Val := Elt Ideal) (oh2pAll (F := Ideal) V.v13 x1) (ix2 (Fin.castAdd 32 r : Fin 64) ⟨256 * j + m.val, by omega⟩)
        = hot (c2 m ⟨2 * j, by omega⟩) r := fun r =>
      (canon_miss 32 (256 * 63) _ _ _ _ _ (by left; exact r.isLt)).trans
        (oh2pL_upper V.v13 hx1 63 _ j (by omega) r m _ _ rfl rfl)
    rw [Finset.sum_congr rfl fun r _ => by rw [up r]]
    refine (sum_hot (N := 32) _ ⟨(c2 m ⟨2 * j, by omega⟩).val, by omega⟩).trans ?_
    exact (canon_miss 32 (256 * 63) _ _ _ _ _ (by left; show (c2 m ⟨2 * j, _⟩).val < 32; omega)).trans
        (pairL_upper V.v10 V.v7 V.v12 A hx0 63 _ j (by omega) (c2 m ⟨2 * j, by omega⟩) n _ _ rfl rfl)
  · by_cases hj' : j < 63
    · rw [siteSim_of_lt A n m _ (by omega)]
      have hlt := (c2 m ⟨2 * j + 2, by omega⟩).isLt
      have up : ∀ r : Fin 32, View.canon (Val := Elt Ideal) (oh2pAll (F := Ideal) V.v13 x1) (ix2 (Fin.natAdd 32 r : Fin 64) ⟨256 * j + m.val, by omega⟩)
          = hot (c2 m ⟨2 * j + 2, by omega⟩) r := fun r =>
        (canon_miss 32 (256 * 63) _ _ _ _ _ (by right; right; left; show 256 * j + m.val < 256 * 63; omega)).trans
          (oh2pL_lower V.v13 hx1 63 _ j (by omega) r m _ _ rfl rfl)
      rw [Finset.sum_congr rfl fun r _ => by rw [up r]]
      refine (sum_hot (N := 32) _ ⟨(c2 m ⟨2 * j + 2, by omega⟩).val, by omega⟩).trans ?_
      exact (canon_miss 32 (256 * 63) _ _ _ _ _ (by right; right; left; show 256 * j + n.val < 256 * 63; omega)).trans
        (pairL_lower V.v10 V.v7 V.v12 A hx0 63 _ j (by omega) (c2 m ⟨2 * j + 2, by omega⟩) n _ _ rfl rfl)
    · obtain rfl : j = 63 := by omega
      have z : ∀ r : Fin 32, View.canon (Val := Elt Ideal) (oh2pAll (F := Ideal) V.v13 x1) (ix2 (Fin.natAdd 32 r : Fin 64) ⟨256 * 63 + m.val, by omega⟩)
          = (0 : EReal) := fun r => by
        refine (canon_hit 32 (256 * 63) _ _ _ _ _ r m rfl rfl).trans ?_
        unfold k0_pay425
        rw [shapeCast_self]
        show Ideal.ofBits .bf16 0x0000#16 = 0
        simp [Ideal.ofBits, Ideal.ieee]
      rw [Finset.sum_congr rfl fun r _ => by rw [z r, mul_zero], Finset.sum_const_zero]
      unfold siteSim
      rw [dif_neg (show ¬ 2 * 63 + 2 < 128 by omega)]

/-- A load of the whole buffer after a store of the whole buffer reads what was stored. -/
theorem readCov_last (va : View sig .tc .vmem S256x256 .f32) (w : Vec Ideal S256x256 .f32) (L : List (View.Piece (Elt Ideal) S256x256 .f32)) (n m : Fin 256) :
    va.readCov (Val := Elt Ideal) (⟨Rect.unit ![0, 0] S256x256.size inb_S256x256_S256x256_0_0, w⟩ :: L)
      (Rect.unit ![0, 0] S256x256.size inb_S256x256_S256x256_0_0).toLoadRect (ix2 n m) = w (ix2 n m) := by
  rw [View.readCov_cons_toLoadRect]

/-- An accumulator after `k` steps is the sum of the steps' products. -/
theorem accL_apply (va : View sig .tc .vmem S256x256 .f32) (s o : (k : ℕ) → k < 32 → Vec Ideal S20x256 .bf16)
    (p q : (k : ℕ) → k < 32 → Vec Ideal S64x256 .bf16) (n m : Fin 256) (g : ℕ → EReal)
    (hg : ∀ k h, (∑ r : Fin 20, s k h (ix2 r n) * o k h (ix2 r m)) * (∑ a : Fin 64, p k h (ix2 a n) * q k h (ix2 a m)) = g k)
    (k : ℕ) (hk : k ≤ 32) :
    va.readCov (Val := Elt Ideal) (accL (F := Ideal) va s o p q k hk) (Rect.unit ![0, 0] S256x256.size inb_S256x256_S256x256_0_0).toLoadRect (ix2 n m)
      = ∑ j ∈ Finset.range k, g j := by
  induction k with
  | zero =>
    rw [Finset.range_zero, Finset.sum_empty]
    refine (readCov_last va _ _ n m).trans ?_
    unfold k0_pay558
    rw [shapeCast_self]
    exact Ideal.ofBits_zero_f32
  | succ k ih =>
    rw [Finset.sum_range_succ, ← hg k hk, ← ih (by omega)]
    refine (readCov_last va _ _ n m).trans ?_
    exact accStep_apply _ _ _ _ _ n m

/-- The accumulator of the sites `4 k + 1 + 2 b`. -/
theorem accOf_apply (V : Views) (va : View sig .tc .vmem S256x256 .f32) (b : ℕ) (hb : b ≤ 1) (hx0 : Codes x0 c1) (hx1 : Codes x1 c2) (n m : Fin 256) :
    accOf (F := Ideal) V va b hb x0 x1 A (ix2 n m)
      = ∑ k ∈ Finset.range 32, siteSim A c1 c2 n m (2 * (2 * k + b) + 1)
          * (siteSim A c1 c2 n m (2 * (2 * k + b)) + siteSim A c1 c2 n m (2 * (2 * k + b) + 2)) := by
  unfold accOf accAll
  exact accL_apply va _ _ _ _ n m _ (fun k h => congrArg₂ (· * ·) (odd_dot A V hx0 hx1 (2 * k + b) (by omega) n m)
    (even_dot A V hx0 hx1 (2 * k + b) (by omega) n m)) 32 _

end Cert.Ssk

end
-- ==== Proof.Ssk.Self.lean ====
/- The self-similarities at the extended reals, and the value the kernel stores at one element. -/
module

public import proofs.«01_k».proof.Proof.Ssk.Sim

@[expose] public section

noncomputable section

namespace Cert.Ssk

open Cert.KernelIdeal Cert.KernelIdeal.Gen Idealize.ShloMosaic Idealize.ShloMosaic.TcCoe Idealize.SL.Sem Idealize.ShloMosaic.ValueIdx

open scoped BigOperators

variable (A : Vec Ideal S20x16 .f32)

/-- A loaded factor is that entry. -/
theorem entry_apply (c k : ℕ) (hc : c < 20) (hk : k < 16) : entry (F := Ideal) A c k hc hk = A (ix2 ⟨c, hc⟩ ⟨k, hk⟩) := by
  unfold entry
  show A _ = A _
  exact congrArg A (funext fun d => Fin.ext (match d with
    | ⟨0, _⟩ => rfl
    | ⟨1, _⟩ => rfl))

/-- The running sum of squares is the sum over the entries read so far. -/
theorem sqSum_range (c : ℕ) (hc : c < 20) (f : ℕ → EReal) (hf : ∀ k (hk : k < 16), f k = A (ix2 ⟨c, hc⟩ ⟨k, hk⟩) * A (ix2 ⟨c, hc⟩ ⟨k, hk⟩))
    (k : ℕ) (hk : k < 16) : sqSum (F := Ideal) A c hc k hk = ∑ j ∈ Finset.range (k + 1), f j := by
  induction k with
  | zero =>
    rw [Finset.sum_range_one, hf 0 hk]
    show entry (F := Ideal) A c 0 hc hk * entry (F := Ideal) A c 0 hc hk = _
    rw [entry_apply]
  | succ k ih =>
    rw [Finset.sum_range_succ, hf (k + 1) hk, ← ih (by omega)]
    show sqSum (F := Ideal) A c hc k _ + entry (F := Ideal) A c (k + 1) hc hk * entry (F := Ideal) A c (k + 1) hc hk = _
    rw [entry_apply]

/-- The sum of the squares of a row is the row's similarity with itself. -/
theorem sqSum_apply (c : ℕ) (hc : c < 20) : sqSum (F := Ideal) A c hc 15 (by omega) = sim A ⟨c, hc⟩ ⟨c, hc⟩ := by
  have hf : ∀ k (hk : k < 16), (fun k => if h : k < 16 then A (ix2 ⟨c, hc⟩ ⟨k, h⟩) * A (ix2 ⟨c, hc⟩ ⟨k, h⟩) else (0 : EReal)) k
      = A (ix2 ⟨c, hc⟩ ⟨k, hk⟩) * A (ix2 ⟨c, hc⟩ ⟨k, hk⟩) := fun k hk => dif_pos hk
  rw [sqSum_range A c hc _ hf, ← Fin.sum_univ_eq_sum_range]
  exact Finset.sum_congr rfl fun k _ => hf k.val k.isLt

/-- The labels are the numbers 1 to 19. -/
theorem labels_eq (c : Fin 19) : Ideal.ofBits .f32 (labels c) = (((c.val + 1 : ℕ) : ℝ) : EReal) := by
  fin_cases c <;> simp [labels, Ideal.ofBits, Ideal.ieee, -EReal.coe_mul] <;> norm_num

variable {x0 x1 : Vec Ideal S256x128 .i32} {c1 c2 : Fin 256 → Fin 128 → Fin 20}

/-- The chosen self-similarity is the residue's. -/
theorem selfSim_apply (xt : Vec Ideal S128x256 .f32) (i : Fin 128) (n : Fin 256) (r : Fin 20) (hr : xt (ix2 i n) = ((r.val : ℝ) : EReal))
    (c : ℕ) (hc : c < 20) (hrc : r.val ≤ c) : selfSim (F := Ideal) A xt c hc (ix2 i n) = sim A r r := by
  induction c with
  | zero =>
    show sqSum (F := Ideal) A 0 hc 15 _ = _
    rw [sqSum_apply]
    have : r = ⟨0, hc⟩ := Fin.ext (by show r.val = 0; omega)
    rw [this]
  | succ c ih =>
    show Scalar.select (Ideal.cmp .oeq (xt (ix2 i n)) (Ideal.ofBits .f32 (labels ⟨c, by omega⟩))) (sqSum (F := Ideal) A (c + 1) hc 15 _)
      (selfSim (F := Ideal) A xt c _ (ix2 i n)) = _
    rw [hr, labels_eq]
    by_cases h : r.val = c + 1
    · have e : Ideal.cmp .oeq ((r.val : ℝ) : EReal) (((c + 1 : ℕ) : ℝ) : EReal) = 1#1 := by
        rw [h]; simp [Ideal.cmp]
      rw [e, select_one, sqSum_apply]
      have : r = ⟨c + 1, hc⟩ := Fin.ext h
      rw [this]
    · have e : Ideal.cmp .oeq ((r.val : ℝ) : EReal) (((c + 1 : ℕ) : ℝ) : EReal) = 0#1 := by
        have hne : ¬ ((r.val : ℝ) : EReal) = (((c + 1 : ℕ) : ℝ) : EReal) := fun e => h (by exact_mod_cast EReal.coe_eq_coe_iff.mp e)
        simp only [Ideal.cmp, hne, decide_false]
        rfl
      rw [e, select_zero]
      exact ih (by omega) (by omega)

/-- The whole of the transposed residues, one entry. -/
theorem xtAll_apply (v : View sig .tc .vmem S128x256 .f32) (hx : Codes x0 c1) (i : Fin 128) (n : Fin 256) :
    xtAll (F := Ideal) v x0 (ix2 i n) = (((c1 n i).val : ℝ) : EReal) := by
  unfold xtAll
  exact (readCov_block v _ 0 0 _ i n i n (by omega) (by omega)).trans (xt_apply hx i n)

/-- The sum over the path of the products of neighbouring entries of a column. -/
theorem selfRow_apply (d : FVec Ideal S128x256 .f32) (z : Fin 1) (n : Fin 256) :
    selfRow (F := Ideal) d (ix2 z n) = ∑ i : Fin 127, d (ix2 ⟨i.val, by omega⟩ n) * d (ix2 ⟨i.val + 1, by omega⟩ n) := by
  unfold selfRow
  refine (shapeCast_apply _ _ (ix2 z n) (ix1 n) ?_).trans ?_
  · rw [Shape.rowMajor_val_two, Shape.rowMajor_val_one]
    show n.val = z.val * 256 + n.val
    omega
  · refine (Ideal.multiReduction_add_single _ _ _ _ _ (ix1 n)).trans ?_
    refine Finset.sum_congr rfl fun i _ => ?_
    have e : reduces_S127x256_S256.lift (ix1 n) i = (ix2 i n : S127x256.Idx) := funext fun a => Fin.ext (match a with
      | ⟨0, _⟩ => rfl
      | ⟨1, _⟩ => rfl)
    rw [e, mulf_apply]
    refine congrArg₂ (fun u v : EReal => u * v) ?_ ?_
    · refine extractStridedSlice_apply _ d _ _ _ fun a => ?_
      match a with
      | ⟨0, _⟩ => show i.val = 0 + i.val; omega
      | ⟨1, _⟩ => show n.val = 0 + n.val; omega
    · refine extractStridedSlice_apply _ d _ _ _ fun a => ?_
      match a with
      | ⟨0, _⟩ => show i.val + 1 = 1 + i.val; omega
      | ⟨1, _⟩ => show n.val = 0 + n.val; omega

/-- The self-similarity of a sequence: over the path, the products of neighbouring residues' similarities with themselves. -/
def selfPath (A : Vec Ideal S20x16 .f32) (c : Fin 256 → Fin 128 → Fin 20) (n : Fin 256) : EReal :=
  ∑ i : Fin 127, sim A (c n ⟨i.val, by omega⟩) (c n ⟨i.val, by omega⟩) * sim A (c n ⟨i.val + 1, by omega⟩) (c n ⟨i.val + 1, by omega⟩)

theorem selfRow_selfSim (v : View sig .tc .vmem S128x256 .f32) (hx : Codes x0 c1) (z : Fin 1) (n : Fin 256) :
    selfRow (F := Ideal) (selfSim (F := Ideal) A (xtAll (F := Ideal) v x0) 19 (by omega)) (ix2 z n) = selfPath A c1 n := by
  rw [selfRow_apply]
  refine Finset.sum_congr rfl fun i _ => ?_
  rw [selfSim_apply A _ _ n (c1 n ⟨i.val, by omega⟩) (xtAll_apply v hx _ n) 19 _ (by omega),
    selfSim_apply A _ _ n (c1 n ⟨i.val + 1, by omega⟩) (xtAll_apply v hx _ n) 19 _ (by omega)]

/-- The similarity of two sequences over the path: the two accumulators' sums, added. -/
def pathSum (A : Vec Ideal S20x16 .f32) (c1 c2 : Fin 256 → Fin 128 → Fin 20) (n m : Fin 256) : EReal :=
  (∑ k ∈ Finset.range 32, siteSim A c1 c2 n m (2 * (2 * k + 0) + 1)
      * (siteSim A c1 c2 n m (2 * (2 * k + 0)) + siteSim A c1 c2 n m (2 * (2 * k + 0) + 2)))
    + ∑ k ∈ Finset.range 32, siteSim A c1 c2 n m (2 * (2 * k + 1) + 1)
      * (siteSim A c1 c2 n m (2 * (2 * k + 1)) + siteSim A c1 c2 n m (2 * (2 * k + 1) + 2))

/-- The kernel's normalised similarity. -/
def ratioK (A : Vec Ideal S20x16 .f32) (c1 c2 : Fin 256 → Fin 128 → Fin 20) (n m : Fin 256) : EReal :=
  Ideal.div (Ideal.div (2 * pathSum A c1 c2 n m) (Ideal.sqrt (2 * selfPath A c1 n))) (Ideal.sqrt (2 * selfPath A c2 m))

/-- The kernel's power of it. -/
def powK (γ r : EReal) : EReal := if γ = 1 then r else Ideal.exp (γ * Ideal.log r)

theorem ofBits_two : Ideal.ofBits .f32 0x40000000#32 = 2 := by
  have h : Ideal.ofBits .f32 0x40000000#32 = ((2 : ℝ) : EReal) := by
    simp [Ideal.ofBits, Ideal.ieee, -EReal.coe_mul]
    norm_num
  exact h

theorem ofBits_unit : Ideal.ofBits .f32 0x3F800000#32 = 1 := by
  have h : Ideal.ofBits .f32 0x3F800000#32 = ((1 : ℝ) : EReal) := by
    simp [Ideal.ofBits, Ideal.ieee, -EReal.coe_mul]
    norm_num
  exact h

/-- The stored value at one element. -/
theorem outVal_apply (V : Views) (hx0 : Codes x0 c1) (hx1 : Codes x1 c2) (x4 x5 : Vec Ideal S1x1 .f32) (n m : Fin 256) :
    outVal (F := Ideal) V x0 x1 A A x4 x5 (ix2 n m)
      = (x4 (ix2 0 0) * x4 (ix2 0 0)) * powK (x5 (ix2 0 0)) (ratioK A c1 c2 n m) := by
  have ea : ∀ x : Vec Ideal S1x1 .f32, View.ld x (Rect.unit ![0, 0] S1x1.size inb_S1x1_S1x1_0_0) (Shape.Idx.first (by decide)) = x (ix2 0 0) := fun x =>
    congrArg x (funext fun d => Fin.ext (match d with
      | ⟨0, _⟩ => rfl
      | ⟨1, _⟩ => rfl))
  unfold outVal
  rw [ea, ea]
  generalize x4 (ix2 0 0) = a
  generalize x5 (ix2 0 0) = γ
  have hk0 : k0_pay640 (F := Ideal) (accOf V V.v14 0 (by omega) x0 x1 A) (accOf V V.v15 1 (by omega) x0 x1 A) (ix2 n m) = 2 * pathSum A c1 c2 n m := by
    unfold k0_pay640
    rw [mulf_apply, addf_apply, accOf_apply A V V.v14 0 _ hx0 hx1, accOf_apply A V V.v15 1 _ hx0 hx1]
    show Ideal.ofBits .f32 0x40000000#32 * _ = _
    rw [ofBits_two]
    rfl
  have hk2 : selfRow (F := Ideal) (selfSim (F := Ideal) A (xtAll (F := Ideal) V.v13 x1) 19 (by omega)) (ix2 0 m) = selfPath A c2 m :=
    selfRow_selfSim A V.v13 hx1 0 m
  have hk1 : transpose S256x1 [1, 0] (mulf (broadcast S1x256 (Scalar.ofBits (F := Ideal) .f32 0x40000000#32))
        (selfRow (F := Ideal) (selfSim (F := Ideal) A (xtAll (F := Ideal) V.v12 x0) 19 (by omega)))) transposes_S1x256_p1_0_S256x1 (ix2 n 0)
      = 2 * selfPath A c1 n := by
    refine (transpose_apply [1, 0] _ _ (ix2 n 0) (ix2 0 n) (fun b => match b with | ⟨0, _⟩ => rfl | ⟨1, _⟩ => rfl)).trans ?_
    rw [mulf_apply, selfRow_selfSim A V.v12 hx0 0 n]
    show Ideal.ofBits .f32 0x40000000#32 * _ = _
    rw [ofBits_two]
  revert hk0 hk1 hk2
  generalize k0_pay640 (F := Ideal) (accOf V V.v14 0 (by omega) x0 x1 A) (accOf V V.v15 1 (by omega) x0 x1 A) = K
  generalize selfRow (F := Ideal) (selfSim (F := Ideal) A (xtAll (F := Ideal) V.v13 x1) 19 (by omega)) = w2
  generalize transpose S256x1 [1, 0] (mulf (broadcast S1x256 (Scalar.ofBits (F := Ideal) .f32 0x40000000#32))
        (selfRow (F := Ideal) (selfSim (F := Ideal) A (xtAll (F := Ideal) V.v12 x0) 19 (by omega)))) transposes_S1x256_p1_0_S256x1 = w1
  intro hk0 hk2 hk1
  have b1 : broadcastTo S256x256 (sqrt (F := Ideal) (φ := .f32) w1) broadcasts_S256x1_S256x256 (ix2 n m) = Ideal.sqrt (2 * selfPath A c1 n) := by
    refine (broadcastTo_apply _ _ (ix2 n m) (ix2 n 0) (fun d => ?_)).trans (congrArg Ideal.sqrt hk1)
    match d with
    | ⟨0, _⟩ => rfl
    | ⟨1, _⟩ => rfl
  have b2 : broadcastTo S256x256 (sqrt (F := Ideal) (φ := .f32) (mulf (k0_pay713 (F := Ideal)) w2)) broadcasts_S1x256_S256x256 (ix2 n m)
      = Ideal.sqrt (2 * selfPath A c2 m) := by
    refine (broadcastTo_apply _ _ (ix2 n m) (ix2 0 m) (fun d => ?_)).trans (congrArg Ideal.sqrt ?_)
    · match d with
      | ⟨0, _⟩ => rfl
      | ⟨1, _⟩ => rfl
    · rw [mulf_apply, hk2]
      show Ideal.ofBits .f32 0x40000000#32 * _ = _
      rw [ofBits_two]
  have hr : divf (F := Ideal) (divf K (broadcastTo S256x256 (sqrt w1) broadcasts_S256x1_S256x256))
      (broadcastTo S256x256 (sqrt (mulf k0_pay713 w2)) broadcasts_S1x256_S256x256) (ix2 n m) = ratioK A c1 c2 n m := by
    rw [divf_apply, divf_apply, hk0, b1, b2]
    rfl
  unfold k0_pay1
  revert hr
  generalize divf (F := Ideal) (divf K (broadcastTo S256x256 (sqrt w1) broadcasts_S256x1_S256x256))
      (broadcastTo S256x256 (sqrt (mulf k0_pay713 w2)) broadcasts_S1x256_S256x256) = q
  intro hr
  unfold powK
  rw [← hr, mulf_apply]
  show (a * a) * (Scalar.select (Ideal.cmp .oeq γ (Ideal.ofBits .f32 0x3F800000#32)) q _) (ix2 n m) = _
  rw [ofBits_unit]
  by_cases hγ : γ = 1
  · have e : Ideal.cmp .oeq γ 1 = 1#1 := by simp [Ideal.cmp, hγ]
    rw [e, select_one, if_pos hγ]
  · have e : Ideal.cmp .oeq γ 1 = 0#1 := by simp only [Ideal.cmp, hγ, decide_false]; rfl
    rw [e, select_zero, if_neg hγ]
    rfl

end Cert.Ssk

end
-- ==== Proof.Ssk.KernelOut.lean ====
/- The kernel's run: after it, the output holds at `(n, m)` the value of `Self.lean` at the arguments. -/
module

public import proofs.«01_k».proof.Proof.Ssk.Unroll
public import proofs.«01_k».proof.Proof.Ssk.Self

@[expose] public section

noncomputable section

namespace Cert.Ssk

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The one block of an input window is the whole array. -/
theorem iblk0 (c : Dev nD) (t : Fin cfg0.N) : iblk (F := Ideal) m c 0 t = V (F := Ideal) m c main_arg0 := by
  funext y
  show V (F := Ideal) m c main_arg0 _ = V (F := Ideal) m c main_arg0 y
  exact congrArg (V (F := Ideal) m c main_arg0) (funext fun a => Fin.ext (by show 0 * _ + 1 * (y a).val = (y a).val; omega))

theorem iblk1 (c : Dev nD) (t : Fin cfg0.N) : iblk (F := Ideal) m c 1 t = V (F := Ideal) m c main_arg1 := by
  funext y
  show V (F := Ideal) m c main_arg1 _ = V (F := Ideal) m c main_arg1 y
  exact congrArg (V (F := Ideal) m c main_arg1) (funext fun a => Fin.ext (by show 0 * _ + 1 * (y a).val = (y a).val; omega))

theorem iblk2 (c : Dev nD) (t : Fin cfg0.N) : iblk (F := Ideal) m c 2 t = V (F := Ideal) m c main_arg2 := by
  funext y
  show V (F := Ideal) m c main_arg2 _ = V (F := Ideal) m c main_arg2 y
  exact congrArg (V (F := Ideal) m c main_arg2) (funext fun a => Fin.ext (by show 0 * _ + 1 * (y a).val = (y a).val; omega))

theorem iblk3 (c : Dev nD) (t : Fin cfg0.N) : iblk (F := Ideal) m c 3 t = V (F := Ideal) m c main_arg2 := by
  funext y
  show V (F := Ideal) m c main_arg2 _ = V (F := Ideal) m c main_arg2 y
  exact congrArg (V (F := Ideal) m c main_arg2) (funext fun a => Fin.ext (by show 0 * _ + 1 * (y a).val = (y a).val; omega))

theorem iblk4 (c : Dev nD) (t : Fin cfg0.N) : iblk (F := Ideal) m c 4 t = V (F := Ideal) m c main_v0 := by
  funext y
  show V (F := Ideal) m c main_v0 _ = V (F := Ideal) m c main_v0 y
  exact congrArg (V (F := Ideal) m c main_v0) (funext fun a => Fin.ext (by show 0 * _ + 1 * (y a).val = (y a).val; omega))

theorem iblk5 (c : Dev nD) (t : Fin cfg0.N) : iblk (F := Ideal) m c 5 t = V (F := Ideal) m c main_v1 := by
  funext y
  show V (F := Ideal) m c main_v1 _ = V (F := Ideal) m c main_v1 y
  exact congrArg (V (F := Ideal) m c main_v1) (funext fun a => Fin.ext (by show 0 * _ + 1 * (y a).val = (y a).val; omega))

/-- What the region finds of the argument `a`: its one entry. -/
theorem V_v0 (c : Dev nD) : V (F := Ideal) m c main_v0 (ix2 0 0) = m ((c : Thread nD τ).loc main_arg3) (ix1 0) := by
  show StableHlo.after hostOps0 (fun b => m (c, b)) (Proc.devRef .tc main_v0) (ix2 0 0) = _
  rw [StableHlo.after_cons, StableHlo.after_cons, StableHlo.after_nil, StableHlo.reshape_result_ne (r := main_v0) (y := main_v1) (h := by decide), StableHlo.reshape_result]
  exact shapeCast_apply (t := S1x1) _ shapeCasts_S1_S1x1 (ix2 0 0) (ix1 0) (by rw [Shape.rowMajor_val_two, Shape.rowMajor_val_one]; rfl)

/-- … and of `gamma`. -/
theorem V_v1 (c : Dev nD) : V (F := Ideal) m c main_v1 (ix2 0 0) = m ((c : Thread nD τ).loc main_arg4) (ix1 0) := by
  show StableHlo.after hostOps0 (fun b => m (c, b)) (Proc.devRef .tc main_v1) (ix2 0 0) = _
  rw [StableHlo.after_cons, StableHlo.after_cons, StableHlo.after_nil, StableHlo.reshape_result, StableHlo.reshape_result_ne (r := main_arg4) (y := main_v0) (h := by decide)]
  exact shapeCast_apply (t := S1x1) _ shapeCasts_S1_S1x1 (ix2 0 0) (ix1 0) (by rw [Shape.rowMajor_val_two, Shape.rowMajor_val_one]; rfl)

/-- The whole load of a whole buffer reads its contents. -/
theorem loaded_eq (arg : Memref sig .tc .vmem S256x128 .i32) (harg : arg.IsWhole) (x : Vec Ideal S256x128 .i32) :
    loaded (F := Ideal) arg harg x = x := by
  unfold loaded
  rw [View.readAt_eq_ld, Memref.IsWhole.read_unread]
  exact View.ld_unit_zero zeroOff _ _

theorem loadedA_eq (arg : Memref sig .tc .vmem S20x16 .f32) (harg : arg.IsWhole) (x : Vec Ideal S20x16 .f32) :
    loadedA (F := Ideal) arg harg x = x := by
  unfold loadedA
  rw [View.readAt_eq_ld, Memref.IsWhole.read_unread]
  exact View.ld_unit_zero zeroOff _ _

/-- The kernel's result at `(n, j)`, from the factors, the residues, `a` and `gamma`. -/
def kernelAt (A : Vec Ideal S20x16 .f32) (c1 c2 : Fin 256 → Fin 128 → Fin 20) (a γ : EReal) (n j : Fin 256) : EReal :=
  (a * a) * powK γ (ratioK A c1 c2 n j)

/-- The output has one block, the whole array: clipping it to the array changes nothing. -/
theorem cut_apply (X : Vec Ideal S256x256 .f32) (n j : Fin 256) :
    (cfg0.win 6).cut (cfg0.grid.coords ⟨0, by decide⟩) X (ix2 n j : S256x256.Idx) = X (ix2 n j) :=
  congrArg X (funext fun a => Fin.ext rfl)

/-- The output array after the run. -/
theorem arr_apply (c : Dev nD) (c1 c2 : Fin 256 → Fin 128 → Fin 20)
    (hx0 : Codes (m ((c : Thread nD τ).loc main_arg0)) c1) (hx1 : Codes (m ((c : Thread nD τ).loc main_arg1)) c2) (n j : Fin 256) :
    (dats (F := Ideal) m 0 c).arrAt 6 cfg0.N (ix2 n j)
      = kernelAt (m ((c : Thread nD τ).loc main_arg2)) c1 c2 (m ((c : Thread nD τ).loc main_arg3) (ix1 0)) (m ((c : Thread nD τ).loc main_arg4) (ix1 0)) n j := by
  have h1 : (dats (F := Ideal) m 0 c).arrAt 6 cfg0.N (ix2 n j) = (dats (F := Ideal) m 0 c).flushed 6 ⟨0, by decide⟩ (ix2 n j) := by
    refine Eq.trans ?_ (congrFun (Value.blocks6 (F := Ideal) m c ⟨0, by decide⟩ (by decide)) (ix2 n j))
    show (dats (F := Ideal) m 0 c).arrAt 6 cfg0.N (ix2 n j) = (dats (F := Ideal) m 0 c).arrAt 6 cfg0.N _
    exact congrArg ((dats (F := Ideal) m 0 c).arrAt 6 cfg0.N) (funext fun a => Fin.ext (by
      show ((ix2 n j : S256x256.Idx) a).val = 0 * _ + 1 * ((ix2 n j : S256x256.Idx) a).val; omega))
  rw [Value.flushed6_A] at h1
  refine h1.trans ?_
  refine (cut_apply _ n j).trans ?_
  unfold out0_A_6
  rw [View.read_writes_junk_eq_canon, run_eq, View.canon_unit_zero zeroOff]
  rw [loaded_eq, loaded_eq, loadedA_eq, Memref.IsWhole.read_unread, Memref.IsWhole.read_unread, Memref.IsWhole.read_unread]
  rw [iblk0, iblk1, iblk2, iblk3, iblk4, iblk5, V_main_arg0, V_main_arg1, V_main_arg2]
  rw [outVal_apply _ _ hx0 hx1, V_v0, V_v1]
  rfl

end Cert.Ssk

end
-- ==== Proof.Ssk.Gathers.lean ====
/- The gathers of the reference, read at an index whose start words are known. -/
module

public import proofs.«01_k».proof.Proof.Gen.ReferenceIdeal.Read

@[expose] public section

noncomputable section

namespace Cert.Ssk.Ref

open Cert.ReferenceIdeal Cert.ReferenceIdeal.Gen Idealize.ShloMosaic Idealize.ShloMosaic.TcCoe Idealize.SL.Sem Idealize.ShloMosaic.ValueIdx

/-- A small number's word, read signed and clamped to a bound it respects, is that number. -/
theorem clamp_ofNat (k b : ℕ) (hk : k ≤ b) (hb : b < 2 ^ 31) : min (BitVec.ofNat 32 k).toInt.toNat b = k := by
  rw [BitVec.toInt_eq_toNat_of_lt (by rw [BitVec.toNat_ofNat]; omega), BitVec.toNat_ofNat]
  simp only [Int.toNat_natCast]
  omega

theorem axis2 (a : Fin 2) : a = 0 ∨ a = 1 := by omega

theorem axis3 (a : Fin 3) : a = 0 ∨ a = 1 ∨ a = 2 := by omega

variable {α : Type}

/-- Where a gather reads: on each axis the clamped start, plus the batch and the offset coordinates. -/
theorem gather_at {s si t : Shape} (d : GatherDims s si t) (x : s.Idx → α) (idx : IVec si 32) (j : t.Idx) (p : s.Idx)
    (h : ∀ a, d.start j idx a + d.batchCoord j a + d.offCoord j a = (p a).val) : Host.gather d x idx j = x p := by
  unfold Host.gather
  exact congrArg x (funext fun a => Fin.ext (h a))

/-- The start on an axis that the start index map names, from the word the start indices hold there. -/
theorem start_of {s si t : Shape} (d : GatherDims s si t) (idx : IVec si 32) (j : t.Idx) (a : Fin s.rank) (ha : a ∈ d.startIndexMap)
    (q : si.Idx) (hq : d.siIdx j ⟨d.startIndexMap.idxOf a, List.idxOf_lt_length_iff.2 ha⟩ = q) (k : ℕ)
    (hw : idx q = BitVec.ofNat 32 k) (hk : k ≤ s.size a - d.sliceSizes a) (hb : s.size a - d.sliceSizes a < 2 ^ 31) :
    d.start j idx a = k := by
  unfold GatherDims.start
  rw [dif_pos ha, hq, hw]
  exact clamp_ofNat k _ hk hb

/-- Element `(n, i)` of the diagonal lookup: the table at the pair of words. -/
theorem gather_pair (x : S20x20.Idx → α) (idx : IVec S256x128x2 32) (n : Fin 256) (i : Fin 128) (r s : Fin 20)
    (hr : idx (ix3 n i 0) = BitVec.ofNat 32 r.val) (hs : idx (ix3 n i 1) = BitVec.ofNat 32 s.val) :
    Host.gather gather_S20x20_S256x128x2_S256x128_n_01_n_n_01_2_11 x idx (ix2 n i) = x (ix2 r s) := by
  refine gather_at _ x idx _ _ fun a => ?_
  have hr20 := r.isLt
  have hs20 := s.isLt
  rcases axis2 a with rfl | rfl
  · rw [GatherDims.batchCoord_eq_zero _ _ _ List.not_mem_nil, GatherDims.offCoord_eq_zero _ _ _ (by decide),
      start_of _ idx _ _ (by decide) (ix3 n i 0) (funext fun b => Fin.ext (match b with | ⟨0, _⟩ => rfl | ⟨1, _⟩ => rfl | ⟨2, _⟩ => rfl)) r.val hr
        (by show r.val ≤ 19; omega) (by show 19 < 2 ^ 31; omega)]
    rfl
  · rw [GatherDims.batchCoord_eq_zero _ _ _ List.not_mem_nil, GatherDims.offCoord_eq_zero _ _ _ (by decide),
      start_of _ idx _ _ (by decide) (ix3 n i 1) (funext fun b => Fin.ext (match b with | ⟨0, _⟩ => rfl | ⟨1, _⟩ => rfl | ⟨2, _⟩ => rfl)) s.val hs
        (by show s.val ≤ 19; omega) (by show 19 < 2 ^ 31; omega)]
    rfl

/-- Element `(n, i, c)` of the row lookup: the table's row at the word, column `c`. -/
theorem gather_row (x : S20x20.Idx → α) (idx : IVec S256x128x1 32) (n : Fin 256) (i : Fin 128) (c r : Fin 20)
    (hr : idx (ix3 n i 0) = BitVec.ofNat 32 r.val) :
    Host.gather gather_S20x20_S256x128x1_S256x128x20_2_0_n_n_0_2_120 x idx (ix3 n i c) = x (ix2 r c) := by
  refine gather_at _ x idx _ _ fun a => ?_
  have hr20 := r.isLt
  rcases axis2 a with rfl | rfl
  · rw [GatherDims.batchCoord_eq_zero _ _ _ List.not_mem_nil, GatherDims.offCoord_eq_zero _ _ _ (by decide),
      start_of _ idx _ _ (by decide) (ix3 n i 0) (funext fun b => Fin.ext (match b with | ⟨0, _⟩ => rfl | ⟨1, _⟩ => rfl | ⟨2, _⟩ => rfl)) r.val hr
        (by show r.val ≤ 19; omega) (by show 19 < 2 ^ 31; omega)]
    rfl
  · rw [GatherDims.batchCoord_eq_zero _ _ _ List.not_mem_nil]
    unfold GatherDims.start GatherDims.offCoord
    rw [dif_neg (by decide), dif_pos (by decide)]
    show 0 + 0 + c.val = c.val
    omega

/-- Element `(n, m, i)` of the lookup of the second residues in the looked-up rows. -/
theorem gather_site (x : S256x128x20.Idx → α) (idx : IVec S256x128x2 32) (n m : Fin 256) (i j : Fin 128) (s : Fin 20)
    (hj : idx (ix3 m i 0) = BitVec.ofNat 32 j.val) (hs : idx (ix3 m i 1) = BitVec.ofNat 32 s.val) :
    Host.gather gather_S256x128x20_S256x128x2_S256x256x128_0_12_n_n_12_2_25611 x idx (ix3 n m i) = x (ix3 n j s) := by
  refine gather_at _ x idx _ _ fun a => ?_
  have hj128 := j.isLt
  have hs20 := s.isLt
  rcases axis3 a with rfl | rfl | rfl
  · rw [GatherDims.batchCoord_eq_zero _ _ _ List.not_mem_nil]
    unfold GatherDims.start GatherDims.offCoord
    rw [dif_neg (by decide), dif_pos (by decide)]
    show 0 + 0 + n.val = n.val
    omega
  · rw [GatherDims.batchCoord_eq_zero _ _ _ List.not_mem_nil, GatherDims.offCoord_eq_zero _ _ _ (by decide),
      start_of _ idx _ _ (by decide) (ix3 m i 0) (funext fun b => Fin.ext (match b with | ⟨0, _⟩ => rfl | ⟨1, _⟩ => rfl | ⟨2, _⟩ => rfl)) j.val hj
        (by show j.val ≤ 127; omega) (by show 127 < 2 ^ 31; omega)]
    rfl
  · rw [GatherDims.batchCoord_eq_zero _ _ _ List.not_mem_nil, GatherDims.offCoord_eq_zero _ _ _ (by decide),
      start_of _ idx _ _ (by decide) (ix3 m i 1) (funext fun b => Fin.ext (match b with | ⟨0, _⟩ => rfl | ⟨1, _⟩ => rfl | ⟨2, _⟩ => rfl)) s.val hs
        (by show s.val ≤ 19; omega) (by show 19 < 2 ^ 31; omega)]
    rfl

/-- Element `(n, i, e)` of the neighbour lookup of one sequence: column `k` of the padded row, `k` the word at `(i, e)`. -/
theorem gather_nbr (x : S256x129.Idx → α) (idx : IVec S128x2x1 32) (n : Fin 256) (i : Fin 128) (e : Fin 2) (k : Fin 129)
    (hk : idx (ix3 i e 0) = BitVec.ofNat 32 k.val) :
    Host.gather gather_S256x129_S128x2x1_S256x128x2_0_1_n_n_1_2_2561 x idx (ix3 n i e) = x (ix2 n k) := by
  refine gather_at _ x idx _ _ fun a => ?_
  have hk129 := k.isLt
  rcases axis2 a with rfl | rfl
  · rw [GatherDims.batchCoord_eq_zero _ _ _ List.not_mem_nil]
    unfold GatherDims.start GatherDims.offCoord
    rw [dif_neg (by decide), dif_pos (by decide)]
    show 0 + 0 + n.val = n.val
    omega
  · rw [GatherDims.batchCoord_eq_zero _ _ _ List.not_mem_nil, GatherDims.offCoord_eq_zero _ _ _ (by decide),
      start_of _ idx _ _ (by decide) (ix3 i e 0) (funext fun b => Fin.ext (match b with | ⟨0, _⟩ => rfl | ⟨1, _⟩ => rfl | ⟨2, _⟩ => rfl)) k.val hk
        (by show k.val ≤ 128; omega) (by show 128 < 2 ^ 31; omega)]
    rfl

/-- Element `(y, i, e)` of the neighbour lookup of all pairs: column `k` of the padded row, `k` the word at `(i, e)`. -/
theorem gather_nbr_pairs (x : S65536x129.Idx → α) (idx : IVec S128x2x1 32) (y : Fin 65536) (i : Fin 128) (e : Fin 2) (k : Fin 129)
    (hk : idx (ix3 i e 0) = BitVec.ofNat 32 k.val) :
    Host.gather gather_S65536x129_S128x2x1_S65536x128x2_0_1_n_n_1_2_655361 x idx (ix3 y i e) = x (ix2 y k) := by
  refine gather_at _ x idx _ _ fun a => ?_
  have hk129 := k.isLt
  rcases axis2 a with rfl | rfl
  · rw [GatherDims.batchCoord_eq_zero _ _ _ List.not_mem_nil]
    unfold GatherDims.start GatherDims.offCoord
    rw [dif_neg (by decide), dif_pos (by decide)]
    show 0 + 0 + y.val = y.val
    omega
  · rw [GatherDims.batchCoord_eq_zero _ _ _ List.not_mem_nil, GatherDims.offCoord_eq_zero _ _ _ (by decide),
      start_of _ idx _ _ (by decide) (ix3 i e 0) (funext fun b => Fin.ext (match b with | ⟨0, _⟩ => rfl | ⟨1, _⟩ => rfl | ⟨2, _⟩ => rfl)) k.val hk
        (by show k.val ≤ 128; omega) (by show 128 < 2 ^ 31; omega)]
    rfl

end Cert.Ssk.Ref

end
-- ==== Proof.Ssk.Path.lean ====
/- Sums along the path at the extended reals: every edge is counted from both ends, or from its odd end and doubled. -/
module

public import Mathlib.Data.EReal.Operations
public import Mathlib.Data.EReal.Inv
public import Mathlib.Algebra.BigOperators.Fin
public import Mathlib.Algebra.Order.BigOperators.Group.Finset
public import Mathlib.Tactic.Ring
public import Mathlib.Tactic.NormNum

@[expose] public section

noncomputable section

namespace Cert.Ssk

open scoped BigOperators

/-- The neighbours of a site on the path as the reference's graph lists them, 128 standing for none. -/
def nbr (i : Fin 128) (e : Fin 2) : Fin 129 :=
  if e = 0 then (if i.val = 0 then ⟨1, by omega⟩ else ⟨i.val - 1, by omega⟩)
  else (if i.val = 0 ∨ i.val = 127 then ⟨128, by omega⟩ else ⟨i.val + 1, by omega⟩)

/-- The weighted sum over the graph: each site's value times the sum of its neighbours'. -/
def wdk (t : ℕ → EReal) : EReal := ∑ i : Fin 128, (t (nbr i 0).val + t (nbr i 1).val) * t i.val

/-- The sum over the edges of the path. -/
def edges (t : ℕ → EReal) : EReal := ∑ i ∈ Finset.range 127, t i * t (i + 1)

/-- The sum over the odd sites of one half of the even ones (`b` is 0 or 1), as the kernel accumulates it. -/
def oddHalf (t : ℕ → EReal) (b : ℕ) : EReal :=
  ∑ k ∈ Finset.range 32, t (2 * (2 * k + b) + 1) * (t (2 * (2 * k + b)) + t (2 * (2 * k + b) + 2))

/-- The product of a site with the sum of its two neighbours splits. -/
def Splits (t : ℕ → EReal) : Prop := ∀ i, (t i + t (i + 2)) * t (i + 1) = t i * t (i + 1) + t (i + 1) * t (i + 2)

theorem two_mul_ereal (x : EReal) : 2 * x = x + x := by
  induction x with
  | bot => rw [EReal.mul_bot_of_pos (by norm_num)]; rfl
  | coe r => rw [← EReal.coe_add, ← two_mul, EReal.coe_mul]; rfl
  | top => rw [EReal.mul_top_of_pos (by norm_num)]; rfl

/-- Pairs of consecutive terms sum to the sum of all. -/
theorem sum_pairs (f : ℕ → EReal) (n : ℕ) : ∑ k ∈ Finset.range n, (f (2 * k) + f (2 * k + 1)) = ∑ i ∈ Finset.range (2 * n), f i := by
  induction n with
  | zero => rfl
  | succ n ih => rw [Finset.sum_range_succ, ih, show 2 * (n + 1) = 2 * n + 1 + 1 from rfl, Finset.sum_range_succ, Finset.sum_range_succ, add_assoc]

/-- Over the graph every edge is counted twice. -/
theorem wdk_eq (t : ℕ → EReal) (ht : t 128 = 0) (hs : Splits t) : wdk t = 2 * edges t := by
  have hterm : ∀ i : Fin 128, (t (nbr i 0).val + t (nbr i 1).val) * t i.val
      = (fun i : ℕ => (if i = 0 then 0 else t (i - 1) * t i) + t i * t (i + 1)) i.val := by
    intro i
    obtain ⟨i, hi⟩ := i
    rcases Nat.eq_zero_or_pos i with rfl | h0
    · show (t 1 + t 128) * t 0 = 0 + t 0 * t 1
      rw [ht, add_zero, zero_add, EReal.mul_comm]
    · obtain ⟨j, rfl⟩ : ∃ j, i = j + 1 := ⟨i - 1, by omega⟩
      have e0 : (nbr ⟨j + 1, hi⟩ 0).val = j := by
        unfold nbr; rw [if_pos rfl, if_neg (by simp)]; rfl
      have e1 : t (nbr ⟨j + 1, hi⟩ 1).val = t (j + 2) := by
        unfold nbr; rw [if_neg (by decide)]
        by_cases h : j + 1 = 127
        · rw [if_pos (Or.inr h), show j + 2 = 128 by omega]
        · rw [if_neg (by simp; omega)]
      rw [e0, e1]
      show (t j + t (j + 2)) * t (j + 1) = (if j + 1 = 0 then 0 else t (j + 1 - 1) * t (j + 1)) + t (j + 1) * t (j + 1 + 1)
      rw [if_neg (by omega), hs j]
      rfl
  unfold wdk
  rw [Finset.sum_congr rfl fun i _ => hterm i, Fin.sum_univ_eq_sum_range (fun i : ℕ => (if i = 0 then 0 else t (i - 1) * t i) + t i * t (i + 1)) 128,
    Finset.sum_add_distrib, two_mul_ereal]
  refine congrArg₂ (fun u v : EReal => u + v) ?_ ?_
  · rw [Finset.sum_range_succ', if_pos rfl, add_zero]
    exact Finset.sum_congr rfl fun i _ => by rw [if_neg (by omega)]; rfl
  · rw [Finset.sum_range_succ, ht, mul_zero, add_zero]; rfl

/-- The odd sites see every edge once. -/
theorem odd_eq (t : ℕ → EReal) (ht : t 128 = 0) (hs : Splits t) : oddHalf t 0 + oddHalf t 1 = edges t := by
  let p : ℕ → EReal := fun i => t i * t (i + 1)
  have hterm : ∀ j, t (2 * j + 1) * (t (2 * j) + t (2 * j + 2)) = p (2 * j) + p (2 * j + 1) := fun j => by
    show t (2 * j + 1) * (t (2 * j) + t (2 * j + 2)) = t (2 * j) * t (2 * j + 1) + t (2 * j + 1) * t (2 * j + 2)
    rw [EReal.mul_comm, hs (2 * j)]
  unfold oddHalf
  simp only [hterm]
  rw [← Finset.sum_add_distrib]
  refine (sum_pairs (fun j => p (2 * j) + p (2 * j + 1)) 32).trans ((sum_pairs p 64).trans ?_)
  rw [show 2 * 64 = 127 + 1 from rfl, Finset.sum_range_succ, show p 127 = 0 by show t 127 * t 128 = 0; rw [ht, mul_zero], add_zero]
  rfl

/-- A real number. -/
def IsReal (x : EReal) : Prop := x ≠ ⊤ ∧ x ≠ ⊥

/-- Two values of which neither is infinite beside a nonzero one. -/
def Tame (x y : EReal) : Prop := (IsReal x ∨ y = 0) ∧ (IsReal y ∨ x = 0)

/-- Beside tame neighbours a product with a sum splits. -/
theorem split_of_tame (x y z : EReal) (hx : Tame x y) (hz : Tame z y) : (x + z) * y = x * y + y * z := by
  rw [EReal.mul_comm y z]
  rcases hx.2 with hy | hx0
  · rcases hx.1 with hx1 | hy0
    · rcases hz.1 with hz1 | hy0
      · lift x to ℝ using hx1; lift y to ℝ using hy; lift z to ℝ using hz1
        norm_cast; ring
      · rw [hy0]; simp
    · rw [hy0]; simp
  · rcases hz.2 with hy | hz0
    · rw [hx0]; simp
    · rw [hx0, hz0]; simp

/-- Values that are tame along the path split. -/
theorem splits_of_tame (t : ℕ → EReal) (h : ∀ i, Tame (t i) (t (i + 1))) : Splits t := fun i =>
  split_of_tame _ _ _ (h i) ⟨(h (i + 1)).2, (h (i + 1)).1⟩

/-- Nonnegative values split. -/
theorem splits_of_nonneg (t : ℕ → EReal) (h : ∀ i, 0 ≤ t i) : Splits t := fun i => by
  rw [EReal.right_distrib_of_nonneg (h i) (h (i + 2)), EReal.mul_comm (t (i + 1)) (t (i + 2))]

/-- Beside an infinite self-similarity a finite sum of nonnegative edges leaves only zeros. -/
theorem zero_of_edges (d : ℕ → EReal) (h0 : ∀ i, 0 ≤ d i) (he : edges d ≠ ⊤) (i : ℕ) (hi : i < 127) :
    (d i = ⊤ → d (i + 1) = 0) ∧ (d (i + 1) = ⊤ → d i = 0) := by
  have hp : d i * d (i + 1) ≠ ⊤ := fun h => he (top_le_iff.1 (h ▸
    Finset.single_le_sum (f := fun i => d i * d (i + 1)) (fun j _ => mul_nonneg (h0 j) (h0 (j + 1))) (Finset.mem_range.2 hi)))
  constructor
  · intro h; rw [h] at hp
    rcases (h0 (i + 1)).lt_or_eq with hlt | heq
    · exact absurd (EReal.top_mul_of_pos hlt) hp
    · exact heq.symm
  · intro h; rw [h] at hp
    rcases (h0 i).lt_or_eq with hlt | heq
    · exact absurd (EReal.mul_top_of_pos hlt) hp
    · exact heq.symm

end Cert.Ssk

end
-- ==== Proof.Ssk.RefSelf.lean ====
/- The reference's self-similarities: what the program computes for one list of sequences. -/
module

public import proofs.«01_k».proof.Proof.Ssk.Gathers
public import proofs.«01_k».proof.Proof.Ssk.Sim
public import proofs.«01_k».proof.Proof.Ssk.Path

@[expose] public section

noncomputable section

namespace Cert.Ssk.Ref

open Cert.ReferenceIdeal Cert.ReferenceIdeal.Gen Cert.ReferenceIdeal.Read Idealize.ShloMosaic Idealize.ShloMosaic.TcCoe Idealize.SL.Sem Idealize.ShloMosaic.ValueIdx

open scoped BigOperators

/-- An index of a matrix is its two coordinates. -/
theorem ext2 {a b : ℕ} (y : (⟨2, ![a, b]⟩ : Shape).Idx) (n : Fin a) (i : Fin b) (h0 : (y 0).val = n.val) (h1 : (y 1).val = i.val) : y = ix2 n i :=
  funext fun d => Fin.ext (match d with
    | ⟨0, _⟩ => h0
    | ⟨1, _⟩ => h1)

/-- An index of a rank-three array is its three coordinates. -/
theorem ext3 {a b c : ℕ} (y : (⟨3, ![a, b, c]⟩ : Shape).Idx) (n : Fin a) (i : Fin b) (k : Fin c) (h0 : (y 0).val = n.val)
    (h1 : (y 1).val = i.val) (h2 : (y 2).val = k.val) : y = ix3 n i k :=
  funext fun d => Fin.ext (match d with
    | ⟨0, _⟩ => h0
    | ⟨1, _⟩ => h1
    | ⟨2, _⟩ => h2)

/-- An index word with `len` added when it is negative. -/
def wrap (len w : BitVec 32) : BitVec 32 := Scalar.select (IntOp.cmpi .slt w 0#32) (IntOp.addi w len) w

/-- A small number's word stays. -/
theorem wrap_ofNat (len : BitVec 32) (k : ℕ) (hk : k < 2 ^ 31) : wrap len (BitVec.ofNat 32 k) = BitVec.ofNat 32 k := by
  have h : IntOp.cmpi .slt (BitVec.ofNat 32 k) 0#32 = 0#1 := by
    have : (BitVec.ofNat 32 k).slt 0#32 = false := by
      rw [BitVec.slt_eq_decide, BitVec.toInt_eq_toNat_of_lt (by rw [BitVec.toNat_ofNat]; omega)]
      exact decide_eq_false (by rw [show (0#32).toInt = 0 from rfl]; omega)
    unfold IntOp.cmpi
    rw [this]
    rfl
  unfold wrap
  rw [h, select_zero]

/-- The graph lists the path: its words, wrapped past the padding column, are the neighbours. -/
def OnPath (g : Vec Ideal S128x2 .i32) : Prop := ∀ i e, wrap 129#32 (g (ix2 i e)) = BitVec.ofNat 32 (nbr i e).val

theorem zero_word : Ideal.ofBits .f32 0x00000000#32 = 0 := by
  have h : Ideal.ofBits .f32 0x00000000#32 = ((0 : ℝ) : EReal) := by simp [Ideal.ofBits, Ideal.ieee, -EReal.coe_mul]
  exact h

variable {x : Vec Ideal S256x128 .i32} {c : Fin 256 → Fin 128 → Fin 20} (A : Vec Ideal S20x16 .f32) {g : Vec Ideal S128x2 .i32}

/-- The table of similarities. -/
theorem table_apply (r s : Fin 20) : val_main_v1 (F := Ideal) A (ix2 r s) = sim A r s := by
  rw [val_main_v1_apply]
  refine Finset.sum_congr rfl fun k _ => congrArg₂ (fun u v : EReal => u * v) ?_ ?_
  · exact congrArg A (ext2 _ r k rfl rfl)
  · rw [val_main_v0_apply]
    exact congrArg A (ext2 _ s k rfl rfl)

/-- The residues' index words are the residues. -/
theorem residue_apply (hx : Codes x c) (n : Fin 256) (i : Fin 128) : val_main_v6 (F := Ideal) x (ix2 n i) = BitVec.ofNat 32 (c n i).val := by
  have hc := (c n i).isLt
  show wrap 20#32 (x (ix2 n i)) = _
  rw [hx n i, wrap_ofNat _ _ (by omega)]

/-- The pairs of index words. -/
theorem pair_apply (hx : Codes x c) (n : Fin 256) (i : Fin 128) (e : Fin 2) : val_main_v14 (F := Ideal) x (ix3 n i e) = BitVec.ofNat 32 (c n i).val := by
  unfold val_main_v14
  rcases axis2 e with rfl | rfl
  · refine (concatenate_pair_apply_left (s₁ := S256x128x1) (s₂ := S256x128x1) (2 : Fin S256x128x2.rank) _ _ _ (ix3 n i 0) rfl (ix3 n i 0) (fun b => ?_)).trans ?_
    · match b with
      | ⟨0, _⟩ => rfl
      | ⟨1, _⟩ => rfl
      | ⟨2, _⟩ => rfl
    · rw [val_main_v12_apply, ext2 (idx_main_v12 (ix3 n i 0)) n i rfl rfl]
      exact residue_apply hx n i
  · refine (concatenate_pair_apply_right (s₁ := S256x128x1) (s₂ := S256x128x1) (2 : Fin S256x128x2.rank) _ _ _ (ix3 n i 1) rfl rfl (ix3 n i 0) (fun b hb => ?_) rfl).trans ?_
    · match b with
      | ⟨0, _⟩ => rfl
      | ⟨1, _⟩ => rfl
      | ⟨2, _⟩ => exact absurd rfl hb
    · rw [val_main_v13_apply, ext2 (idx_main_v13 (ix3 n i 0)) n i rfl rfl]
      exact residue_apply hx n i

/-- The looked-up self-similarities. -/
theorem diag_apply (hx : Codes x c) (n : Fin 256) (i : Fin 128) : val_main_v15 (F := Ideal) x A (ix2 n i) = sim A (c n i) (c n i) := by
  unfold val_main_v15
  rw [gather_pair _ _ n i (c n i) (c n i) (pair_apply hx n i 0) (pair_apply hx n i 1), table_apply]

/-- With the zero column appended. -/
theorem padded_apply (hx : Codes x c) (n : Fin 256) (k : Fin 129) : val_main_v17 (F := Ideal) x A (ix2 n k) = siteSim A c c n n k.val := by
  unfold val_main_v17
  by_cases hk : k.val < 128
  · rw [siteSim_of_lt A n n k.val hk, ← diag_apply A hx n ⟨k.val, hk⟩]
    refine concatenate_pair_apply_left (s₁ := S256x128) (s₂ := S256x1) (1 : Fin S256x129.rank) _ _ _ (ix2 n k) rfl (ix2 n ⟨k.val, hk⟩) (fun b => ?_)
    match b with
    | ⟨0, _⟩ => rfl
    | ⟨1, _⟩ => rfl
  · have hk' : k.val = 128 := by have := k.isLt; omega
    have hz : siteSim A c c n n k.val = 0 := dif_neg hk
    rw [hz]
    refine (concatenate_pair_apply_right (s₁ := S256x128) (s₂ := S256x1) (1 : Fin S256x129.rank) _ _ _ (ix2 n k) rfl rfl (ix2 n 0) (fun b hb => ?_) ?_).trans ?_
    · match b with
      | ⟨0, _⟩ => rfl
      | ⟨1, _⟩ => exact absurd rfl hb
    · show 0 + 128 = k.val
      omega
    · rw [val_main_v16_apply]
      exact zero_word

/-- The neighbours' index words. -/
theorem nbrs_apply (hg : OnPath g) (i : Fin 128) (e : Fin 2) : val_main_v23 (F := Ideal) g (ix3 i e 0) = BitVec.ofNat 32 (nbr i e).val := by
  rw [val_main_v23_apply, ext2 (idx_main_v23 (ix3 i e 0)) i e rfl rfl]
  exact hg i e

/-- The sum over the graph, for one sequence. -/
theorem self_apply (hx : Codes x c) (hg : OnPath g) (n : Fin 256) : val_main_v28 (F := Ideal) x A g (ix1 n) = wdk (siteSim A c c n n) := by
  have hz : ∀ q : EReal, Ideal.ofBits .f32 0x00000000#32 + q = q := fun q => by rw [zero_word, zero_add]
  rw [val_main_v28_apply]
  refine (hz _).trans (Finset.sum_congr rfl fun i _ => ?_)
  rw [ext2 (idx_main_v28 (ix1 n) i) n i rfl rfl, val_main_v27_apply]
  refine congrArg₂ (fun u v : EReal => u * v) ?_ ?_
  · have hv : ∀ e : Fin 2, val_main_v24 (F := Ideal) x A g (idx_main_v25 (ix2 n i) e) = siteSim A c c n n (nbr i e).val := fun e => by
      rw [ext3 (idx_main_v25 (ix2 n i) e) n i e rfl rfl rfl]
      unfold val_main_v24
      rw [gather_nbr _ _ n i e (nbr i e) (nbrs_apply hg i e), padded_apply A hx]
    rw [val_main_v25_apply]
    refine (hz _).trans ?_
    rw [Fin.sum_univ_two, hv, hv]
  · rw [val_main_v26_apply, ext2 (idx_main_v26 (ix2 n i)) n ⟨i.val, by omega⟩ rfl rfl]
    exact padded_apply A hx n _

end Cert.Ssk.Ref

end
-- ==== Proof.Ssk.RefPair.lean ====
/- The reference's similarities of pairs, and its result at one element. -/
module

public import proofs.«01_k».proof.Proof.Ssk.RefSelf

@[expose] public section

noncomputable section

namespace Cert.Ssk.Ref

open Cert.ReferenceIdeal Cert.ReferenceIdeal.Gen Cert.ReferenceIdeal.Read Idealize.ShloMosaic Idealize.ShloMosaic.TcCoe Idealize.SL.Sem Idealize.ShloMosaic.ValueIdx

open scoped BigOperators

variable {x0 x1 : Vec Ideal S256x128 .i32} {c1 c2 : Fin 256 → Fin 128 → Fin 20} (A : Vec Ideal S20x16 .f32) {g : Vec Ideal S128x2 .i32}

/-- The rows of similarities of the first list's residues. -/
theorem rows_apply (hx0 : Codes x0 c1) (n : Fin 256) (i : Fin 128) (s : Fin 20) :
    val_main_v65 (F := Ideal) x0 A (ix3 n i s) = sim A (c1 n i) s := by
  unfold val_main_v65
  have hw : val_main_v64 (F := Ideal) x0 (ix3 n i 0) = BitVec.ofNat 32 (c1 n i).val := by
    rw [val_main_v64_apply, ext2 (idx_main_v64 (ix3 n i 0)) n i rfl rfl]
    exact residue_apply hx0 n i
  rw [gather_row _ _ n i s (c1 n i) hw, table_apply]

/-- The index words of the second lookup: the site, and the second list's residue there. -/
theorem sites_apply (hx1 : Codes x1 c2) (m : Fin 256) (i : Fin 128) :
    val_main_v79 (F := Ideal) x1 (ix3 m i 0) = BitVec.ofNat 32 i.val
      ∧ val_main_v79 (F := Ideal) x1 (ix3 m i 1) = BitVec.ofNat 32 (c2 m i).val := by
  unfold val_main_v79
  constructor
  · refine (concatenate_pair_apply_left (s₁ := S256x128x1) (s₂ := S256x128x1) (2 : Fin S256x128x2.rank) _ _ _ (ix3 m i 0) rfl (ix3 m i 0) (fun b => ?_)).trans ?_
    · match b with
      | ⟨0, _⟩ => rfl
      | ⟨1, _⟩ => rfl
      | ⟨2, _⟩ => rfl
    · rw [val_main_v77_apply, ext2 (idx_main_v77 (ix3 m i 0)) m i rfl rfl, val_main_v76_apply]
      have hi := i.isLt
      show wrap 128#32 (BitVec.ofNat 32 i.val) = _
      exact wrap_ofNat _ _ (by omega)
  · refine (concatenate_pair_apply_right (s₁ := S256x128x1) (s₂ := S256x128x1) (2 : Fin S256x128x2.rank) _ _ _ (ix3 m i 1) rfl rfl (ix3 m i 0) (fun b hb => ?_) rfl).trans ?_
    · match b with
      | ⟨0, _⟩ => rfl
      | ⟨1, _⟩ => rfl
      | ⟨2, _⟩ => exact absurd rfl hb
    · rw [val_main_v78_apply, ext2 (idx_main_v78 (ix3 m i 0)) m i rfl rfl]
      exact residue_apply hx1 m i

/-- The similarity of a pair of sequences at a site. -/
theorem site_apply (hx0 : Codes x0 c1) (hx1 : Codes x1 c2) (n m : Fin 256) (i : Fin 128) :
    val_main_v80 (F := Ideal) x0 x1 A (ix3 n m i) = sim A (c1 n i) (c2 m i) := by
  unfold val_main_v80
  rw [gather_site _ _ n m i i (c2 m i) (sites_apply hx1 m i).1 (sites_apply hx1 m i).2, rows_apply A hx0]

/-- The number of a pair. -/
def pairNo (n m : Fin 256) : Fin 65536 := ⟨n.val * 256 + m.val, by omega⟩

/-- The similarities of the pairs, one row per pair. -/
theorem flat_apply (hx0 : Codes x0 c1) (hx1 : Codes x1 c2) (n m : Fin 256) (i : Fin 128) :
    val_main_v81 (F := Ideal) x0 x1 A (ix2 (pairNo n m) i) = sim A (c1 n i) (c2 m i) := by
  have hn := n.isLt
  have hm := m.isLt
  have hi := i.isLt
  rw [val_main_v81_apply, ext3 (idx_main_v81 (ix2 (pairNo n m) i)) n m i
    (by show ((n.val * 256 + m.val) * 128 + i.val) / 32768 = n.val; omega)
    (by show ((n.val * 256 + m.val) * 128 + i.val) / 128 % 256 = m.val; omega)
    (by show ((n.val * 256 + m.val) * 128 + i.val) % 128 = i.val; omega)]
  exact site_apply A hx0 hx1 n m i

/-- With the zero column appended. -/
theorem flatPadded_apply (hx0 : Codes x0 c1) (hx1 : Codes x1 c2) (n m : Fin 256) (k : Fin 129) :
    val_main_v83 (F := Ideal) x0 x1 A (ix2 (pairNo n m) k) = siteSim A c1 c2 n m k.val := by
  unfold val_main_v83
  by_cases hk : k.val < 128
  · rw [siteSim_of_lt A n m k.val hk, ← flat_apply A hx0 hx1 n m ⟨k.val, hk⟩]
    refine concatenate_pair_apply_left (s₁ := S65536x128) (s₂ := S65536x1) (1 : Fin S65536x129.rank) _ _ _ (ix2 (pairNo n m) k) rfl (ix2 (pairNo n m) ⟨k.val, hk⟩) (fun b => ?_)
    match b with
    | ⟨0, _⟩ => rfl
    | ⟨1, _⟩ => rfl
  · have hk' : k.val = 128 := by have := k.isLt; omega
    have hz : siteSim A c1 c2 n m k.val = 0 := dif_neg hk
    rw [hz]
    refine (concatenate_pair_apply_right (s₁ := S65536x128) (s₂ := S65536x1) (1 : Fin S65536x129.rank) _ _ _ (ix2 (pairNo n m) k) rfl rfl (ix2 (pairNo n m) 0) (fun b hb => ?_) ?_).trans ?_
    · match b with
      | ⟨0, _⟩ => rfl
      | ⟨1, _⟩ => exact absurd rfl hb
    · show 0 + 128 = k.val
      omega
    · rw [val_main_v82_apply]
      exact zero_word

/-- The sum over the graph, for one pair. -/
theorem pair_sum_apply (hx0 : Codes x0 c1) (hx1 : Codes x1 c2) (hg : OnPath g) (n m : Fin 256) :
    val_main_v94 (F := Ideal) x0 x1 A g (ix1 (pairNo n m)) = wdk (siteSim A c1 c2 n m) := by
  have hz : ∀ q : EReal, Ideal.ofBits .f32 0x00000000#32 + q = q := fun q => by rw [zero_word, zero_add]
  rw [val_main_v94_apply]
  refine (hz _).trans (Finset.sum_congr rfl fun i _ => ?_)
  rw [ext2 (idx_main_v94 (ix1 (pairNo n m)) i) (pairNo n m) i rfl rfl, val_main_v93_apply]
  refine congrArg₂ (fun u v : EReal => u * v) ?_ ?_
  · have hv : ∀ e : Fin 2, val_main_v90 (F := Ideal) x0 x1 A g (idx_main_v91 (ix2 (pairNo n m) i) e) = siteSim A c1 c2 n m (nbr i e).val := fun e => by
      rw [ext3 (idx_main_v91 (ix2 (pairNo n m) i) e) (pairNo n m) i e rfl rfl rfl]
      unfold val_main_v90
      have hw : val_main_v89 (F := Ideal) g (ix3 i e 0) = BitVec.ofNat 32 (nbr i e).val := by
        rw [val_main_v89_apply, ext2 (idx_main_v89 (ix3 i e 0)) i e rfl rfl]
        exact hg i e
      rw [gather_nbr_pairs _ _ (pairNo n m) i e (nbr i e) hw, flatPadded_apply A hx0 hx1]
    rw [val_main_v91_apply]
    refine (hz _).trans ?_
    rw [Fin.sum_univ_two, hv, hv]
  · rw [val_main_v92_apply, ext2 (idx_main_v92 (ix2 (pairNo n m) i)) (pairNo n m) ⟨i.val, by omega⟩ rfl rfl]
    exact flatPadded_apply A hx0 hx1 n m _

/-- The second list's self-similarities are computed as the first's. -/
theorem self2_eq (x : Vec Ideal S256x128 .i32) : val_main_v56 (F := Ideal) x A g = val_main_v28 (F := Ideal) x A g := rfl

/-- The reference's normalised similarity. -/
def ratioR (A : Vec Ideal S20x16 .f32) (c1 c2 : Fin 256 → Fin 128 → Fin 20) (n m : Fin 256) : EReal :=
  Ideal.div (Ideal.div (wdk (siteSim A c1 c2 n m)) (Ideal.sqrt (wdk (siteSim A c1 c1 n n)))) (Ideal.sqrt (wdk (siteSim A c2 c2 m m)))

/-- The reference's result at one element. -/
theorem ref_apply (hx0 : Codes x0 c1) (hx1 : Codes x1 c2) (hg : OnPath g) (x3 x4 : Vec Ideal S1 .f32) (n m : Fin 256) :
    val_main_v108 (F := Ideal) x0 x1 A x3 x4 g (ix2 n m)
      = (x3 (ix1 0) * x3 (ix1 0)) * Ideal.pow (ratioR A c1 c2 n m) (x4 (ix1 0)) := by
  have e1 : ∀ (y : S1.Idx), y = ix1 0 := fun y => funext fun d => match d with
    | ⟨0, _⟩ => Subsingleton.elim (α := Fin 1) _ _
  have h95 : val_main_v95 (F := Ideal) x0 x1 A g (ix2 n m) = wdk (siteSim A c1 c2 n m) := by
    rw [val_main_v95_apply, ← pair_sum_apply A hx0 hx1 hg n m]
    exact congrArg _ (funext fun d => Fin.ext (match d with | ⟨0, _⟩ => rfl))
  have h97 : val_main_v97 (F := Ideal) x0 A g (ix2 n m) = Ideal.sqrt (wdk (siteSim A c1 c1 n n)) := by
    rw [val_main_v97_apply, val_main_v96_apply, val_main_v29_apply]
    refine congrArg Ideal.sqrt ?_
    rw [← self_apply A hx0 hg n]
    exact congrArg _ (funext fun d => Fin.ext (match d with | ⟨0, _⟩ => by show n.val * 1 + 0 = n.val; omega))
  have h100 : val_main_v100 (F := Ideal) x1 A g (ix2 n m) = Ideal.sqrt (wdk (siteSim A c2 c2 m m)) := by
    rw [val_main_v100_apply, val_main_v99_apply, val_main_v57_apply]
    refine congrArg Ideal.sqrt ?_
    rw [self2_eq, ← self_apply A hx1 hg m]
    exact congrArg _ (funext fun d => Fin.ext (match d with | ⟨0, _⟩ => by show 0 * 256 + m.val = m.val; omega))
  rw [val_main_v108_apply, val_main_v107_apply, val_main_v106_apply, val_main_v102_apply, val_main_v105_apply, val_main_v104_apply,
    val_main_v103_apply, val_main_v101_apply, val_main_v98_apply, h95, h97, h100, e1 (idx_main_v106 _), e1 (idx_main_v103 _)]
  rfl

end Cert.Ssk.Ref

end
-- ==== Proof.Ssk.Pre.lean ====
/- What the precondition says of the arguments. -/
module

public import proofs.«01_k».proof.Pre_path_graph
public import proofs.«01_k».proof.Proof.Ssk.RefSelf
public import Idealize.ShloMosaic.Lib.ReduceAll
public import Idealize.ShloMosaic.Lib.Affine
public import Idealize.ShloMosaic.Lib.Pointwise.Select

@[expose] public section

noncomputable section

namespace Cert.Ssk.Pre

open Cert.Pre_path_graph Idealize.ShloMosaic Idealize.ShloMosaic.ValueIdx Cert.Ssk.Ref

/-- The side conditions of the precondition's operations. -/
theorem facts : Cert.Pre_path_graph.Facts where
  bcast_S_S128x2 := by decide
  natLt_1_32 := by decide
  transposes_S20x16_S16x20_1_0 := by decide
  bcast_S_S256x128 := by decide
  reducesTo_S256x128_S_d0_1 := by decide
  h_S_ := by decide
  reducesTo_S128x2_S_d0_1 := by decide
  shapeCasts_S1_S_ := by decide
  bcast_S_S20x20 := by decide
  reducesTo_S20x20_S_d0_1 := by decide
  dot_S20x16_S16x20_S20x20_1_0_0_1_n_n_wf := by decide

/-- Whether two words are equal, as a word. -/
def isWord (x y : BitVec 32) : BitVec 32 := BitVec.setWidth 32 (IntOp.cmpi .eq x y)

/-- The path's word at site `i`, side `e`, as the precondition computes it. -/
def pathWord (i e : BitVec 32) : BitVec 32 :=
  IntOp.addi
    (IntOp.addi
      (IntOp.muli (IntOp.muli (IntOp.addi (IntOp.subi i 1#32) (IntOp.muli 2#32 e)) (IntOp.subi 1#32 (isWord i 0#32))) (IntOp.subi 1#32 (isWord i 127#32)))
      (IntOp.muli (IntOp.subi 1#32 (IntOp.muli 2#32 e)) (isWord i 0#32)))
    (IntOp.muli (IntOp.subi 126#32 (IntOp.muli 127#32 e)) (isWord i 127#32))

/-- Wrapped past the padding column, the path's words are the neighbours. -/
theorem wrap_pathWord : ∀ (i : Fin 128) (e : Fin 2),
    wrap 129#32 (pathWord (BitVec.ofNat 32 i.val) (BitVec.ofNat 32 e.val)) = BitVec.ofNat 32 (nbr i e).val := by
  decide +kernel

/-- A word between 0 and 19 is a residue. -/
theorem residue_of_word (w : BitVec 32) (h0 : IntOp.cmpi .sge w 0#32 = 1#1) (h1 : IntOp.cmpi .slt w 20#32 = 1#1) :
    ∃ r : Fin 20, w = BitVec.ofNat 32 r.val := by
  have h0' := IntOp.cmpi_sge.1 h0
  have h1' := IntOp.cmpi_slt.1 h1
  rw [show (0#32).toInt = 0 from rfl] at h0'
  rw [show (20#32).toInt = 20 from rfl] at h1'
  have hlt : w.toNat < 20 := by
    rw [BitVec.toInt_eq_toNat_cond] at h0' h1'
    have := w.isLt
    split at h0' <;> omega
  exact ⟨⟨w.toNat, hlt⟩, by simp⟩

/-- Residues in range are codes. -/
theorem codes_of_range (x : Vec Ideal S256x128 .i32) (h : ∀ y, IntOp.andi (IntOp.cmpi .sge (x y) 0#32) (IntOp.cmpi .slt (x y) 20#32) = 1#1) :
    ∃ c, Codes x c := by
  have hr : ∀ n i, ∃ r : Fin 20, x (ValueIdx.ix2 n i) = BitVec.ofNat 32 r.val := fun n i =>
    residue_of_word _ (IntOp.andi_eq_one.1 (h (ValueIdx.ix2 n i))).1 (IntOp.andi_eq_one.1 (h (ValueIdx.ix2 n i))).2
  exact ⟨fun n i => (hr n i).choose, fun n i => (hr n i).choose_spec⟩

/-- A truth word that is one is true. -/
theorem ofBool_one {p : Bool} (h : BitVec.ofBool p = 1#1) : p = true := by
  cases p
  · exact absurd h (by decide)
  · rfl

instance : Subsingleton S_.Idx := ⟨fun _ _ => funext fun d => d.elim0⟩

/-- What the precondition says. -/
theorem read [Cert.Pre_path_graph.Facts] (x0 x1 : Vec Ideal S256x128 .i32) (A : Vec Ideal S20x16 .f32) (x3 x4 : Vec Ideal S1 .f32) (g : Vec Ideal S128x2 .i32)
    (h : Cert.Pre_path_graph.fn (F := Ideal) x0 x1 A x3 x4 g = fun _ => 1#1) :
    (∃ c1, Codes x0 c1) ∧ (∃ c2, Codes x1 c2) ∧ OnPath g
      ∧ (x4 (ValueIdx.ix1 0) = 1 ∨ ∀ r s, 0 < sim A r s ∧ sim A r s < ⊤) := by
  have h0 := congrFun h (fun d => d.elim0)
  obtain ⟨h48, h57⟩ := IntOp.andi_eq_one.1 h0
  obtain ⟨h45, h47⟩ := IntOp.andi_eq_one.1 h48
  obtain ⟨h38, h44⟩ := IntOp.andi_eq_one.1 h45
  refine ⟨codes_of_range x0 fun y => Host.reduce_andi_all _ _ _ _ _ h38 y, codes_of_range x1 fun y => Host.reduce_andi_all _ _ _ _ _ h44 y, fun i e => ?_, ?_⟩
  · have he := Host.reduce_andi_all _ _ _ _ _ h47 (ValueIdx.ix2 i e)
    have hw : g (ValueIdx.ix2 i e) = pathWord (BitVec.ofNat 32 i.val) (BitVec.ofNat 32 e.val) := IntOp.cmpi_eq.1 he
    rw [hw, wrap_pathWord]
  · have h57' := IntOp.ori_eq_one.1 h57
    rcases h57' with hg | hs
    · left
      have hg' : BitVec.ofBool (decide (x4 (ValueIdx.ix1 0) = Ideal.ofBits .f32 0x3F800000#32)) = 1#1 := by
        refine Eq.trans ?_ hg
        refine congrArg (fun v : EReal => BitVec.ofBool (decide (v = Ideal.ofBits .f32 0x3F800000#32))) ?_
        exact congrArg x4 (funext fun d => match d with
          | ⟨0, _⟩ => Subsingleton.elim (α := Fin 1) _ _)
      have hd := of_decide_eq_true (ofBool_one hg')
      have h1 : Ideal.ofBits .f32 0x3F800000#32 = ((1 : ℝ) : EReal) := by
        simp [Ideal.ofBits, Ideal.ieee, -EReal.coe_mul]
        norm_num
      rw [hd, h1]
      rfl
    · right
      intro r s
      have hrs := Host.reduce_andi_all _ _ _ _ _ hs (ValueIdx.ix2 r s)
      obtain ⟨ha, hb⟩ := IntOp.andi_eq_one.1 hrs
      have ha' : Ideal.ofBits .f32 0x00000000#32 < Cert.ReferenceIdeal.Read.val_main_v1 (F := Ideal) A (ValueIdx.ix2 r s) :=
        of_decide_eq_true (ofBool_one ha)
      have hb' : Cert.ReferenceIdeal.Read.val_main_v1 (F := Ideal) A (ValueIdx.ix2 r s) < Ideal.ofBits .f32 0x7F800000#32 :=
        of_decide_eq_true (ofBool_one hb)
      have ht : Ideal.ofBits .f32 0x7F800000#32 = ⊤ := by simp [Ideal.ofBits, Ideal.ieee]
      rw [table_apply] at ha' hb'
      rw [zero_word] at ha'
      rw [ht] at hb'
      exact ⟨ha', hb'⟩

end Cert.Ssk.Pre

end
-- ==== Proof.Ssk.Equal.lean ====
/- The kernel's element and the reference's are equal, over the extended reals. -/
module

public import proofs.«01_k».proof.Proof.Ssk.KernelOut
public import proofs.«01_k».proof.Proof.Ssk.RefPair
public import Mathlib.Analysis.SpecialFunctions.Pow.Real

@[expose] public section

noncomputable section

namespace Cert.Ssk

open Cert.ReferenceIdeal Idealize.ShloMosaic Idealize.ShloMosaic.TcCoe Idealize.SL.Sem Cert.Ssk.Ref

open scoped BigOperators

/-! ## Squares and real sums -/

theorem sq_nonneg_ereal (x : EReal) : 0 ≤ x * x := by
  induction x with
  | bot => rw [EReal.bot_mul_bot]; exact le_top
  | coe r => rw [← EReal.coe_mul]; exact EReal.coe_nonneg.2 (mul_self_nonneg r)
  | top => rw [EReal.top_mul_top]; exact le_top

theorem sq_of_not_real (x : EReal) (h : ¬ IsReal x) : x * x = ⊤ := by
  induction x with
  | bot => exact EReal.bot_mul_bot
  | coe r => exact absurd ⟨EReal.coe_ne_top r, EReal.coe_ne_bot r⟩ h
  | top => exact EReal.top_mul_top

theorem eq_zero_of_sq (x : EReal) (h : x * x = 0) : x = 0 := by
  induction x with
  | bot => rw [EReal.bot_mul_bot] at h; exact absurd h (by simp)
  | coe r =>
    rw [← EReal.coe_mul, EReal.coe_eq_zero] at h
    rw [mul_self_eq_zero.1 h]
    rfl
  | top => rw [EReal.top_mul_top] at h; exact absurd h (by simp)

theorem isReal_coe (r : ℝ) : IsReal (r : EReal) := ⟨EReal.coe_ne_top r, EReal.coe_ne_bot r⟩

theorem isReal_zero : IsReal 0 := isReal_coe 0

theorem IsReal.add {x y : EReal} (hx : IsReal x) (hy : IsReal y) : IsReal (x + y) := by
  lift x to ℝ using hx
  lift y to ℝ using hy
  rw [← EReal.coe_add]
  exact isReal_coe _

theorem IsReal.mul {x y : EReal} (hx : IsReal x) (hy : IsReal y) : IsReal (x * y) := by
  lift x to ℝ using hx
  lift y to ℝ using hy
  rw [← EReal.coe_mul]
  exact isReal_coe _

theorem IsReal.sum {ι : Type} (s : Finset ι) (f : ι → EReal) (h : ∀ i ∈ s, IsReal (f i)) : IsReal (∑ i ∈ s, f i) :=
  Finset.sum_induction f IsReal (fun _ _ => IsReal.add) isReal_zero h

/-! ## Similarities -/

variable (A : Vec Ideal S20x16 .f32) (c1 c2 : Fin 256 → Fin 128 → Fin 20)

/-- A row of factors without an infinite entry. -/
def Fine (r : Fin 20) : Prop := ∀ k : Fin 16, IsReal (A (ValueIdx.ix2 r k))

theorem sim_self_nonneg (r : Fin 20) : 0 ≤ sim A r r := Finset.sum_nonneg fun _ _ => sq_nonneg_ereal _

theorem sim_self_of_not_fine (r : Fin 20) (h : ¬ Fine A r) : sim A r r = ⊤ := by
  obtain ⟨k, hk⟩ := not_forall.1 h
  refine top_le_iff.1 ?_
  rw [← sq_of_not_real _ hk]
  exact Finset.single_le_sum (f := fun k : Fin 16 => A (ValueIdx.ix2 r k) * A (ValueIdx.ix2 r k)) (fun _ _ => sq_nonneg_ereal _) (Finset.mem_univ k)

theorem sim_real (r s : Fin 20) (hr : Fine A r) (hs : Fine A s) : IsReal (sim A r s) :=
  IsReal.sum _ _ fun k _ => (hr k).mul (hs k)

theorem sim_of_zero (r s : Fin 20) (h : sim A r r = 0) : sim A r s = 0 := by
  have hz := (Finset.sum_eq_zero_iff_of_nonneg (s := Finset.univ) (f := fun k : Fin 16 => A (ValueIdx.ix2 r k) * A (ValueIdx.ix2 r k)) (fun _ _ => sq_nonneg_ereal _)).1 h
  refine Finset.sum_eq_zero fun k hk => ?_
  rw [eq_zero_of_sq _ (hz k hk), zero_mul]

/-! ## Along the path -/

theorem siteSim_end (n m : Fin 256) (i : ℕ) (h : ¬ i < 128) : siteSim A c1 c2 n m i = 0 := dif_neg h

theorem self_nonneg (n : Fin 256) (i : ℕ) : 0 ≤ siteSim A c1 c1 n n i := by
  by_cases h : i < 128
  · rw [siteSim_of_lt A n n i h]
    exact sim_self_nonneg A _
  · rw [siteSim_end A c1 c1 n n i h]

/-- The kernel's sum over the path is the sum over its edges. -/
theorem selfPath_eq (n : Fin 256) : selfPath A c1 n = edges (siteSim A c1 c1 n n) := by
  unfold edges
  rw [Finset.sum_range]
  refine Finset.sum_congr rfl fun i _ => ?_
  rw [siteSim_of_lt A n n i.val (by omega), siteSim_of_lt A n n (i.val + 1) (by omega)]

theorem self_eq (n : Fin 256) : wdk (siteSim A c1 c1 n n) = 2 * selfPath A c1 n := by
  rw [selfPath_eq]
  exact wdk_eq _ (siteSim_end A c1 c1 n n 128 (by omega)) (splits_of_nonneg _ (self_nonneg A c1 n))

/-- Where the values along the path split, the kernel's sum and the reference's are one. -/
theorem cross_eq (n m : Fin 256) (hs : Splits (siteSim A c1 c2 n m)) : wdk (siteSim A c1 c2 n m) = 2 * pathSum A c1 c2 n m := by
  have hz := siteSim_end A c1 c2 n m 128 (by omega)
  rw [wdk_eq _ hz hs, ← odd_eq _ hz hs]
  rfl

/-- Beside a site with an infinite factor, a finite self-similarity leaves similarities of zero only. -/
theorem real_or_zero (n m : Fin 256) (i j : ℕ)
    (h1 : siteSim A c1 c1 n n i = ⊤ → siteSim A c1 c1 n n j = 0) (h2 : siteSim A c2 c2 m m i = ⊤ → siteSim A c2 c2 m m j = 0) :
    IsReal (siteSim A c1 c2 n m i) ∨ siteSim A c1 c2 n m j = 0 := by
  by_cases hi : i < 128
  · by_cases hj : j < 128
    · rw [siteSim_of_lt A _ _ i hi, siteSim_of_lt A _ _ j hj] at h1 h2
      rw [siteSim_of_lt A _ _ i hi, siteSim_of_lt A _ _ j hj]
      by_cases f1 : Fine A (c1 n ⟨i, hi⟩)
      · by_cases f2 : Fine A (c2 m ⟨i, hi⟩)
        · exact Or.inl (sim_real A _ _ f1 f2)
        · right
          rw [sim_comm]
          exact sim_of_zero A _ _ (h2 (sim_self_of_not_fine A _ f2))
      · exact Or.inr (sim_of_zero A _ _ (h1 (sim_self_of_not_fine A _ f1)))
    · exact Or.inr (siteSim_end A c1 c2 n m j hj)
  · rw [siteSim_end A c1 c2 n m i hi]
    exact Or.inl isReal_zero

/-- With finite self-similarities the values along the path are tame. -/
theorem tame_of_finite (n m : Fin 256) (h1 : selfPath A c1 n ≠ ⊤) (h2 : selfPath A c2 m ≠ ⊤) (i : ℕ) :
    Tame (siteSim A c1 c2 n m i) (siteSim A c1 c2 n m (i + 1)) := by
  rw [selfPath_eq] at h1 h2
  by_cases hi : i < 127
  · have z1 := zero_of_edges _ (self_nonneg A c1 n) h1 i hi
    have z2 := zero_of_edges _ (self_nonneg A c2 m) h2 i hi
    exact ⟨real_or_zero A c1 c2 n m i (i + 1) z1.1 z2.1, real_or_zero A c1 c2 n m (i + 1) i z1.2 z2.2⟩
  · have hz := siteSim_end A c1 c2 n m (i + 1) (by omega)
    rw [hz]
    exact ⟨Or.inr rfl, Or.inl isReal_zero⟩

theorem div_sqrt_top (x : EReal) : Ideal.div x (Ideal.sqrt (2 * ⊤)) = 0 := by
  rw [EReal.mul_top_of_pos (by norm_num)]
  show Ideal.div x ⊤ = 0
  unfold Ideal.div
  rw [if_neg (by simp), EReal.inv_top, mul_zero]

/-- The normalised similarities are equal. -/
theorem ratio_eq (n m : Fin 256) : ratioR A c1 c2 n m = ratioK A c1 c2 n m := by
  unfold ratioR ratioK
  rw [self_eq, self_eq]
  by_cases h1 : selfPath A c1 n = ⊤
  · rw [h1, div_sqrt_top, div_sqrt_top]
  · by_cases h2 : selfPath A c2 m = ⊤
    · rw [h2, div_sqrt_top, div_sqrt_top]
    · rw [cross_eq A c1 c2 n m (splits_of_tame _ (tame_of_finite A c1 c2 n m h1 h2))]

/-! ## The power -/

theorem pow_one (r : EReal) : Ideal.pow r 1 = r := by
  induction r with
  | bot => rfl
  | coe r =>
    show ((Real.rpow r 1 : ℝ) : EReal) = r
    rw [show Real.rpow r 1 = r from Real.rpow_one r]
  | top =>
    show (if (0 : EReal) < 1 then ⊤ else if (1 : EReal) = 0 then 1 else 0) = (⊤ : EReal)
    rw [if_pos (by norm_num)]

/-- Of a positive real number the power is the exponential of the exponent times the logarithm. -/
theorem pow_of_pos (r : ℝ) (hr : 0 < r) (γ : EReal) : Ideal.pow (r : EReal) γ = Ideal.exp (γ * Ideal.log (r : EReal)) := by
  have hl : Ideal.log (r : EReal) = (Real.log r : EReal) := if_neg (not_le.2 hr)
  rw [hl]
  induction γ with
  | bot =>
    show (if r < 0 then ⊥ else if 1 < r then 0 else if r = 1 then 1 else ⊤) = _
    rw [if_neg (not_lt.2 hr.le)]
    rcases lt_trichotomy 1 r with h | h | h
    · rw [if_pos h, EReal.bot_mul_coe_of_pos (Real.log_pos h)]; rfl
    · rw [if_neg (by rw [← h]; exact lt_irrefl _), if_pos h.symm, ← h, Real.log_one, EReal.coe_zero, mul_zero]
      show (1 : EReal) = ((Real.exp 0 : ℝ) : EReal)
      rw [Real.exp_zero]; rfl
    · rw [if_neg (not_lt.2 h.le), if_neg h.ne, EReal.bot_mul_coe_of_neg (Real.log_neg hr h)]; rfl
  | coe y =>
    rw [← EReal.coe_mul]
    show ((Real.rpow r y : ℝ) : EReal) = ((Real.exp (y * Real.log r) : ℝ) : EReal)
    rw [show Real.rpow r y = Real.exp (Real.log r * y) from Real.rpow_def_of_pos hr y, mul_comm]
  | top =>
    show (if r < 0 then ⊥ else if 1 < r then ⊤ else if r = 1 then 1 else 0) = _
    rw [if_neg (not_lt.2 hr.le)]
    rcases lt_trichotomy 1 r with h | h | h
    · rw [if_pos h, EReal.top_mul_coe_of_pos (Real.log_pos h)]; rfl
    · rw [if_neg (by rw [← h]; exact lt_irrefl _), if_pos h.symm, ← h, Real.log_one, EReal.coe_zero, mul_zero]
      show (1 : EReal) = ((Real.exp 0 : ℝ) : EReal)
      rw [Real.exp_zero]; rfl
    · rw [if_neg (not_lt.2 h.le), if_neg h.ne, EReal.top_mul_coe_of_neg (Real.log_neg hr h)]; rfl

/-- A positive real number. -/
def IsPos (x : EReal) : Prop := ∃ r : ℝ, 0 < r ∧ x = (r : EReal)

theorem isPos_of (x : EReal) (h0 : 0 < x) (h1 : x < ⊤) : IsPos x := by
  lift x to ℝ using ⟨h1.ne, ((EReal.bot_lt_zero).trans h0).ne'⟩
  exact ⟨x, EReal.coe_pos.1 h0, rfl⟩

theorem IsPos.add {x y : EReal} (hx : IsPos x) (hy : IsPos y) : IsPos (x + y) := by
  obtain ⟨r, hr, rfl⟩ := hx
  obtain ⟨s, hs, rfl⟩ := hy
  exact ⟨r + s, add_pos hr hs, (EReal.coe_add r s).symm⟩

theorem IsPos.mul {x y : EReal} (hx : IsPos x) (hy : IsPos y) : IsPos (x * y) := by
  obtain ⟨r, hr, rfl⟩ := hx
  obtain ⟨s, hs, rfl⟩ := hy
  exact ⟨r * s, mul_pos hr hs, (EReal.coe_mul r s).symm⟩

theorem IsPos.double {x : EReal} (hx : IsPos x) : IsPos (2 * x) := by
  rw [two_mul_ereal]
  exact hx.add hx

theorem IsPos.divSqrt {x y : EReal} (hx : IsPos x) (hy : IsPos y) : IsPos (Ideal.div x (Ideal.sqrt y)) := by
  obtain ⟨r, hr, rfl⟩ := hx
  obtain ⟨s, hs, rfl⟩ := hy
  have hq : Ideal.sqrt (s : EReal) = (Real.sqrt s : EReal) := if_neg (not_lt.2 hs.le)
  have hs' := Real.sqrt_pos.2 hs
  refine ⟨r * (Real.sqrt s)⁻¹, mul_pos hr (inv_pos.2 hs'), ?_⟩
  rw [hq]
  unfold Ideal.div
  rw [if_neg (by rw [EReal.coe_eq_zero]; exact hs'.ne'), ← EReal.coe_inv, ← EReal.coe_mul]

/-- With positive real similarities the sum over the edges is a positive real number. -/
theorem edges_pos (h : ∀ r s, 0 < sim A r s ∧ sim A r s < ⊤) (n m : Fin 256) : IsPos (edges (siteSim A c1 c2 n m)) := by
  refine Finset.sum_induction_nonempty (fun i => siteSim A c1 c2 n m i * siteSim A c1 c2 n m (i + 1)) IsPos (fun _ _ => IsPos.add) ⟨0, by simp⟩ fun i hi => ?_
  have hi' := Finset.mem_range.1 hi
  rw [siteSim_of_lt A n m i (by omega), siteSim_of_lt A n m (i + 1) (by omega)]
  exact (isPos_of _ (h _ _).1 (h _ _).2).mul (isPos_of _ (h _ _).1 (h _ _).2)

theorem IsPos.isReal {x : EReal} (hx : IsPos x) : IsReal x := by
  obtain ⟨r, _, rfl⟩ := hx
  exact isReal_coe r

/-- With positive real similarities the normalised similarity is a positive real number. -/
theorem ratio_pos (h : ∀ r s, 0 < sim A r s ∧ sim A r s < ⊤) (n m : Fin 256) : IsPos (ratioR A c1 c2 n m) := by
  have p1 : IsPos (selfPath A c1 n) := by rw [selfPath_eq]; exact edges_pos A c1 c1 h n n
  have p2 : IsPos (selfPath A c2 m) := by rw [selfPath_eq]; exact edges_pos A c2 c2 h m m
  unfold ratioR
  rw [self_eq, self_eq, wdk_eq _ (siteSim_end A c1 c2 n m 128 (by omega)) (splits_of_tame _ (tame_of_finite A c1 c2 n m p1.isReal.1 p2.isReal.1))]
  exact ((edges_pos A c1 c2 h n m).double.divSqrt p1.double).divSqrt p2.double

/-- The kernel's element is the reference's. -/
theorem element_eq (a γ : EReal) (h : γ = 1 ∨ ∀ r s, 0 < sim A r s ∧ sim A r s < ⊤) (n m : Fin 256) :
    (a * a) * Ideal.pow (ratioR A c1 c2 n m) γ = kernelAt A c1 c2 a γ n m := by
  unfold kernelAt powK
  rw [← ratio_eq]
  by_cases hγ : γ = 1
  · rw [if_pos hγ, hγ, pow_one]
  · rw [if_neg hγ]
    obtain ⟨r, hr, e⟩ := ratio_pos A c1 c2 (h.resolve_left hγ) n m
    rw [e, pow_of_pos r hr]

end Cert.Ssk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Ssk.KernelOut
public import proofs.«01_k».proof.Proof.Ssk.RefPair
public import proofs.«01_k».proof.Proof.Ssk.Pre
public import proofs.«01_k».proof.Proof.Ssk.Equal
public import Idealize.ShloMosaic.Adequacy
public import Idealize.ShloMosaic.Init

@[expose] public section

noncomputable section

namespace Cert.Proof

open Idealize.ShloMosaic Idealize.ShloMosaic.TcCoe Idealize.SL.Sem

instance preFacts : Cert.Pre_path_graph.Facts := Cert.Ssk.Pre.facts

/-- The reference runs and keeps its arguments, whatever they are; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_reference_pre : Cert.quiescent_ReferenceIdeal_pre_path_graph := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result, at arguments that meet the precondition, is the kernel's. -/
theorem value_eq (m : (ℓ : Loc Cert.KernelIdeal.nD Cert.KernelIdeal.τ Cert.KernelIdeal.sig) → Buf (Elt Ideal) ℓ)
    (hpre : Cert.Pre_KernelIdeal_path_graph m) (c : Dev Cert.KernelIdeal.nD) :
    Cert.ReferenceIdeal.Read.val_main_v108 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = (Cert.KernelIdeal.Gen.dats (F := Ideal) m 0 c).arrAt 6 Cert.KernelIdeal.cfg0.N := by
  obtain ⟨⟨c1, hx0⟩, ⟨c2, hx1⟩, hg, hγ⟩ := Cert.Ssk.Pre.read _ _ _ _ _ _ (hpre c)
  funext y
  obtain ⟨n, j, rfl⟩ : ∃ n j : Fin 256, y = ValueIdx.ix2 n j := ⟨y 0, y 1, Cert.Ssk.Ref.ext2 y _ _ rfl rfl⟩
  exact (Cert.Ssk.Ref.ref_apply _ hx0 hx1 hg _ _ n j).trans
    ((Cert.Ssk.element_eq _ c1 c2 _ _ hγ n j).trans (Cert.Ssk.arr_apply m c c1 c2 hx0 hx1 n j).symm)

/-- The two programs' results are equal. -/
theorem algebraic : Cert.algebraic_KernelIdeal_ReferenceIdeal_pre_path_graph := by
  intro m g m' g' hpre hagree
  refine ⟨fun c => (Cert.KernelIdeal.Gen.dats (F := Ideal) m 0 c).arrAt 6 Cert.KernelIdeal.cfg0.N,
    Cert.KernelIdeal.Value.run_blocks (F := Ideal) m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5⟩ := hagree c
  rw [Cert.ReferenceIdeal.Read.val_main_v108_eq, h0, h1, h2, h3, h4, h5]
  exact value_eq m hpre c

theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    frame_reference, frame_reference_pre, trivial, algebraic⟩

end Cert.Proof

end
